-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_logit [hPre_some_logit : Cert.Pre_some_logit.Facts] (m : (ℓ : Loc Cert.KernelIdeal.nD Cert.KernelIdeal.τ Cert.KernelIdeal.sig) → Buf (Elt Ideal) ℓ) : Prop :=
  ∀ c : Dev Cert.KernelIdeal.nD,
    (Cert.Pre_some_logit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_logit [hPre_some_logit : Cert.Pre_some_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_logit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_some_logit [hKernelIdeal : Cert.KernelIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_some_logit [hReferenceIdeal : Cert.ReferenceIdeal.Facts] [hPre_some_logit : Cert.Pre_some_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_some_logit [hKernelIdeal : Cert.KernelIdeal.Facts] [hReferenceIdeal : Cert.ReferenceIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_some_logit : Cert.Pre_some_logit.Facts),
    quiescent_Kernel (hKernel := hKernel)
    ∧ quiescent_KernelIdeal (hKernelIdeal := hKernelIdeal)
    ∧ quiescent_KernelIdeal_pre_some_logit (hKernelIdeal := hKernelIdeal) (hPre_some_logit := hPre_some_logit)
    ∧ quiescent_ReferenceIdeal (hReferenceIdeal := hReferenceIdeal)
    ∧ quiescent_ReferenceIdeal_pre_some_logit (hReferenceIdeal := hReferenceIdeal) (hPre_some_logit := hPre_some_logit)
    ∧ preserves_Kernel_KernelIdeal
    ∧ algebraic_KernelIdeal_ReferenceIdeal_pre_some_logit (hKernelIdeal := hKernelIdeal) (hReferenceIdeal := hReferenceIdeal) (hPre_some_logit := hPre_some_logit)
-- ==== Pre_some_logit.lean ====
abbrev S20x16x100000 : Shape := ⟨3, ![20, 16, 100000]⟩
abbrev S20 : Shape := ⟨1, ![20]⟩
abbrev S_ : Shape := ⟨0, ![]⟩
abbrev S20x16 : Shape := ⟨2, ![20, 16]⟩

class Facts : Prop where
  reducesTo_S20x16x100000_S20x16_d2 : S20x16x100000.ReducesTo [2] S20x16
  h_S_ : 0 < S_.numel
  bcast_S_S20x16 : S_.BroadcastsInDim S20x16 (![] : Fin 0 → Fin S20x16.rank)

variable [Facts]

def fn {F : FTy → Type} [FloatOps F] (main_arg0 : FVec F S20x16x100000 .f32) (main_arg1 : FVec F S20 .f32) : IVec S20x16 1 :=
  let main_cst : FVec F S_ .f32 := constant S_ .f32 0xFF800000#32
  let main_v0 : FVec F S20x16 .f32 := (fun x v => Host.reduce FloatOps.maximumf x v reducesTo_S20x16x100000_S20x16_d2 h_S_) main_arg0 main_cst
  let main_cst_0 : FVec F S_ .f32 := constant S_ .f32 0xFF800000#32
  let main_v1 : FVec F S20x16 .f32 := broadcastInDim S20x16 ![] bcast_S_S20x16 main_cst_0
  let main_v2 : IVec S20x16 1 := cmpf .ogt main_v0 main_v1
  main_v2
-- ==== Kernel.lean ====
abbrev S20x16x100000 : Shape := ⟨3, ![20, 16, 100000]⟩
abbrev S20 : Shape := ⟨1, ![20]⟩
abbrev S320x100000 : Shape := ⟨2, ![320, 100000]⟩
abbrev S40x8x1 : Shape := ⟨3, ![40, 8, 1]⟩
abbrev S20x16 : Shape := ⟨2, ![20, 16]⟩
abbrev S16x20 : Shape := ⟨2, ![16, 20]⟩
abbrev S1x20 : Shape := ⟨2, ![1, 20]⟩
abbrev S1x1 : Shape := ⟨2, ![1, 1]⟩
abbrev S_ : Shape := ⟨0, ![]⟩
abbrev S8x100000 : Shape := ⟨2, ![8, 100000]⟩
abbrev S1x8x1 : Shape := ⟨3, ![1, 8, 1]⟩
abbrev S8x1024 : Shape := ⟨2, ![8, 1024]⟩
abbrev S8 : Shape := ⟨1, ![8]⟩
abbrev S8x1 : Shape := ⟨2, ![8, 1]⟩
abbrev S8x672 : Shape := ⟨2, ![8, 672]⟩
abbrev S1x1x20 : Shape := ⟨3, ![1, 1, 20]⟩
abbrev S1 : Shape := ⟨1, ![1]⟩
abbrev S1x1x1 : Shape := ⟨3, ![1, 1, 1]⟩

abbrev nBuf : Space → Nat
  | .hbm => 13
  | .vmem => 10
  | .smem => 0
  | _ => 0

abbrev bufTy : (tb : Table) → Fin (tcTables nBuf tb) → BufTy
  | .hbm, ⟨0, _⟩ => ⟨S20x16x100000, .f32⟩
  | .hbm, ⟨1, _⟩ => ⟨S20, .f32⟩
  | .hbm, ⟨2, _⟩ => ⟨S320x100000, .f32⟩
  | .hbm, ⟨3, _⟩ => ⟨S40x8x1, .f32⟩
  | .hbm, ⟨4, _⟩ => ⟨S40x8x1, .i32⟩
  | .hbm, ⟨5, _⟩ => ⟨S20x16, .i32⟩
  | .hbm, ⟨6, _⟩ => ⟨S20x16, .f32⟩
  | .hbm, ⟨7, _⟩ => ⟨S16x20, .f32⟩
  | .hbm, ⟨8, _⟩ => ⟨S1x20, .f32⟩
  | .hbm, ⟨9, _⟩ => ⟨S1x20, .f32⟩
  | .hbm, ⟨10, _⟩ => ⟨S1x1, .f32⟩
  | .hbm, ⟨11, _⟩ => ⟨S20, .f32⟩
  | .hbm, ⟨12, _⟩ => ⟨S_, .f32⟩
  | .local _ .vmem, ⟨0, _⟩ => ⟨S8x100000, .f32⟩
  | .local _ .vmem, ⟨1, _⟩ => ⟨S8x100000, .f32⟩
  | .local _ .vmem, ⟨2, _⟩ => ⟨S1x8x1, .f32⟩
  | .local _ .vmem, ⟨3, _⟩ => ⟨S1x8x1, .f32⟩
  | .local _ .vmem, ⟨4, _⟩ => ⟨S1x8x1, .i32⟩
  | .local _ .vmem, ⟨5, _⟩ => ⟨S1x8x1, .i32⟩
  | .local _ .vmem, ⟨6, _⟩ => ⟨S16x20, .f32⟩
  | .local _ .vmem, ⟨7, _⟩ => ⟨S1x20, .f32⟩
  | .local _ .vmem, ⟨8, _⟩ => ⟨S1x20, .f32⟩
  | .local _ .vmem, ⟨9, _⟩ => ⟨S1x1, .f32⟩
  | _, _ => ⟨S20x16x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_v0_0 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6_0 : Ref sig .tc := ⟨.hbm, 9, rfl⟩
abbrev main_call0_v6_1 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c97_i32 : BitVec 32 := 97#32
  let v1 : BitVec 32 := Scalar.addi c0_i32 c97_i32
  let c1_i32 : BitVec 32 := 1#32
  ⟨c0_i32, v1, c1_i32⟩
def k0_off1 (k0_t1 : Fin k0_t1_loop.trips) : Fin 2 → Nat :=
  let c0_83 : Index := 0#32
  let c0_i32 : BitVec 32 := 0#32
  let c1_i32 : BitVec 32 := 1#32
  let arg4 : BitVec 32 := Scf.iv c0_i32 c1_i32 k0_t1
  let c1024_i32 : BitVec 32 := 1024#32
  let v288 : BitVec 32 := Scalar.muli arg4 c1024_i32
  let v289 : Index := Scalar.indexCast v288
  ![0, v289.toNat]
@[reducible] def k0_t2_loop : Scf.Loop 32 :=
  let c0_i32_7 : BitVec 32 := 0#32
  let c97_i32_8 : BitVec 32 := 97#32
  let v23 : BitVec 32 := Scalar.addi c0_i32_7 c97_i32_8
  let c1_i32_9 : BitVec 32 := 1#32
  ⟨c0_i32_7, v23, c1_i32_9⟩
def k0_off2 (k0_t2 : Fin k0_t2_loop.trips) : Fin 2 → Nat :=
  let c0_83 : Index := 0#32
  let c0_i32_7 : BitVec 32 := 0#32
  let c1_i32_9 : BitVec 32 := 1#32
  let arg4 : BitVec 32 := Scf.iv c0_i32_7 c1_i32_9 k0_t2
  let c1024_i32 : BitVec 32 := 1024#32
  let v288 : BitVec 32 := Scalar.muli arg4 c1024_i32
  let v289 : Index := Scalar.indexCast v288
  ![0, v289.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c20_i32 : BitVec 32 := 20#32
  let v9 : BitVec 32 := Scalar.addi c0_i32 c20_i32
  let c1_i32 : BitVec 32 := 1#32
  ⟨c0_i32, v9, c1_i32⟩
abbrev stage1_0 : Fin 1 → Memref sig .tc .vmem S16x20 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S20x16x100000 : Shape := ⟨3, ![20, 16, 100000]⟩
abbrev S20 : Shape := ⟨1, ![20]⟩
abbrev S_ : Shape := ⟨0, ![]⟩
abbrev S1 : Shape := ⟨1, ![1]⟩
abbrev S2 : Shape := ⟨1, ![2]⟩
abbrev S20x16 : Shape := ⟨2, ![20, 16]⟩
abbrev S20x16x1 : Shape := ⟨3, ![20, 16, 1]⟩
abbrev S20x16x1x1 : Shape := ⟨4, ![20, 16, 1, 1]⟩
abbrev S1x1x1x1 : Shape := ⟨4, ![1, 1, 1, 1]⟩

abbrev nBuf : Space → Nat
  | .hbm => 384
  | .vmem => 0
  | .smem => 0
  | _ => 0

abbrev hbmTy0_0 (i : Nat) : BufTy := match i % 128 with
  | 0 => ⟨S20x16x100000, .f32⟩
  | 1 => ⟨S20, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S20x16x100000, .i64⟩
  | 17 => ⟨S20x16x100000, .i64⟩
  | 18 => ⟨S20x16x100000, .i64⟩
  | 19 => ⟨S_, .i64⟩
  | 20 => ⟨S20x16x100000, .i64⟩
  | 21 => ⟨S20x16x100000, .i64⟩
  | 22 => ⟨S_, .i64⟩
  | 23 => ⟨S20x16x100000, .i64⟩
  | 24 => ⟨S20x16x100000, .i64⟩
  | 25 => ⟨S_, .i64⟩
  | 26 => ⟨S20x16x100000, .i64⟩
  | 27 => ⟨S20x16x100000, .i64⟩
  | 28 => ⟨S20x16x100000, .i64⟩
  | 29 => ⟨S20x16x100000, .i64⟩
  | 30 => ⟨S_, .i64⟩
  | 31 => ⟨S20x16x100000, .i64⟩
  | 32 => ⟨S20x16x100000, .i64⟩
  | 33 => ⟨S20x16x100000, .i32⟩
  | 34 => ⟨S20x16x100000, .i32⟩
  | 35 => ⟨S_, .i32⟩
  | 36 => ⟨S_, .i32⟩
  | 37 => ⟨S_, .i32⟩
  | 38 => ⟨S20x16x100000, .i32⟩
  | 39 => ⟨S20x16x100000, .i32⟩
  | 40 => ⟨S20x16x100000, .i32⟩
  | 41 => ⟨S20x16x100000, .i32⟩
  | 42 => ⟨S20x16x100000, .i32⟩
  | 43 => ⟨S_, .i32⟩
  | 44 => ⟨S20x16x100000, .i32⟩
  | 45 => ⟨S20x16x100000, .i32⟩
  | 46 => ⟨S_, .i32⟩
  | 47 => ⟨S20x16x100000, .i32⟩
  | 48 => ⟨S20x16x100000, .i32⟩
  | 49 => ⟨S20x16x100000, .i32⟩
  | 50 => ⟨S20x16x100000, .i32⟩
  | 51 => ⟨S20x16x100000, .i32⟩
  | 52 => ⟨S_, .i32⟩
  | 53 => ⟨S20x16x100000, .i32⟩
  | 54 => ⟨S20x16x100000, .i32⟩
  | 55 => ⟨S_, .i32⟩
  | 56 => ⟨S20x16x100000, .i32⟩
  | 57 => ⟨S20x16x100000, .i32⟩
  | 58 => ⟨S20x16x100000, .i32⟩
  | 59 => ⟨S20x16x100000, .i32⟩
  | 60 => ⟨S20x16x100000, .i32⟩
  | 61 => ⟨S_, .i32⟩
  | 62 => ⟨S20x16x100000, .i32⟩
  | 63 => ⟨S20x16x100000, .i32⟩
  | 64 => ⟨S_, .i32⟩
  | 65 => ⟨S20x16x100000, .i32⟩
  | 66 => ⟨S20x16x100000, .i32⟩
  | 67 => ⟨S20x16x100000, .i32⟩
  | 68 => ⟨S20x16x100000, .i32⟩
  | 69 => ⟨S20x16x100000, .i32⟩
  | 70 => ⟨S_, .i32⟩
  | 71 => ⟨S20x16x100000, .i32⟩
  | 72 => ⟨S20x16x100000, .i32⟩
  | 73 => ⟨S_, .i32⟩
  | 74 => ⟨S20x16x100000, .i32⟩
  | 75 => ⟨S20x16x100000, .i32⟩
  | 76 => ⟨S20x16x100000, .i32⟩
  | 77 => ⟨S20x16x100000, .i32⟩
  | 78 => ⟨S20x16x100000, .i32⟩
  | 79 => ⟨S20x16x100000, .i32⟩
  | 80 => ⟨S20x16x100000, .i32⟩
  | 81 => ⟨S20x16x100000, .i32⟩
  | 82 => ⟨S_, .i32⟩
  | 83 => ⟨S20x16x100000, .i32⟩
  | 84 => ⟨S20x16x100000, .i32⟩
  | 85 => ⟨S20x16x100000, .i32⟩
  | 86 => ⟨S_, .i32⟩
  | 87 => ⟨S20x16x100000, .i32⟩
  | 88 => ⟨S20x16x100000, .i32⟩
  | 89 => ⟨S_, .i32⟩
  | 90 => ⟨S20x16x100000, .i32⟩
  | 91 => ⟨S20x16x100000, .i32⟩
  | 92 => ⟨S20x16x100000, .i32⟩
  | 93 => ⟨S20x16x100000, .i32⟩
  | 94 => ⟨S20x16x100000, .i32⟩
  | 95 => ⟨S_, .i32⟩
  | 96 => ⟨S20x16x100000, .i32⟩
  | 97 => ⟨S20x16x100000, .i32⟩
  | 98 => ⟨S_, .i32⟩
  | 99 => ⟨S20x16x100000, .i32⟩
  | 100 => ⟨S20x16x100000, .i32⟩
  | 101 => ⟨S20x16x100000, .i32⟩
  | 102 => ⟨S20x16x100000, .i32⟩
  | 103 => ⟨S20x16x100000, .i32⟩
  | 104 => ⟨S_, .i32⟩
  | 105 => ⟨S20x16x100000, .i32⟩
  | 106 => ⟨S20x16x100000, .i32⟩
  | 107 => ⟨S_, .i32⟩
  | 108 => ⟨S20x16x100000, .i32⟩
  | 109 => ⟨S20x16x100000, .i32⟩
  | 110 => ⟨S20x16x100000, .i32⟩
  | 111 => ⟨S20x16x100000, .i32⟩
  | 112 => ⟨S20x16x100000, .i32⟩
  | 113 => ⟨S_, .i32⟩
  | 114 => ⟨S20x16x100000, .i32⟩
  | 115 => ⟨S20x16x100000, .i32⟩
  | 116 => ⟨S_, .i32⟩
  | 117 => ⟨S20x16x100000, .i32⟩
  | 118 => ⟨S20x16x100000, .i32⟩
  | 119 => ⟨S20x16x100000, .i32⟩
  | 120 => ⟨S20x16x100000, .i32⟩
  | 121 => ⟨S20x16x100000, .i32⟩
  | 122 => ⟨S20x16x100000, .i32⟩
  | 123 => ⟨S20x16x100000, .i32⟩
  | 124 => ⟨S20x16x100000, .i32⟩
  | 125 => ⟨S_, .i32⟩
  | 126 => ⟨S20x16x100000, .i32⟩
  | 127 => ⟨S20x16x100000, .i32⟩
  | _ => ⟨S20x16x100000, .f32⟩

abbrev hbmTy0_1 (i : Nat) : BufTy := match i % 128 with
  | 0 => ⟨S20x16x100000, .i32⟩
  | 1 => ⟨S_, .i32⟩
  | 2 => ⟨S20x16x100000, .i32⟩
  | 3 => ⟨S20x16x100000, .i32⟩
  | 4 => ⟨S_, .i32⟩
  | 5 => ⟨S20x16x100000, .i32⟩
  | 6 => ⟨S20x16x100000, .i32⟩
  | 7 => ⟨S20x16x100000, .i32⟩
  | 8 => ⟨S20x16x100000, .i32⟩
  | 9 => ⟨S20x16x100000, .i32⟩
  | 10 => ⟨S_, .i32⟩
  | 11 => ⟨S20x16x100000, .i32⟩
  | 12 => ⟨S20x16x100000, .i32⟩
  | 13 => ⟨S_, .i32⟩
  | 14 => ⟨S20x16x100000, .i32⟩
  | 15 => ⟨S20x16x100000, .i32⟩
  | 16 => ⟨S20x16x100000, .i32⟩
  | 17 => ⟨S20x16x100000, .i32⟩
  | 18 => ⟨S20x16x100000, .i32⟩
  | 19 => ⟨S_, .i32⟩
  | 20 => ⟨S20x16x100000, .i32⟩
  | 21 => ⟨S20x16x100000, .i32⟩
  | 22 => ⟨S_, .i32⟩
  | 23 => ⟨S20x16x100000, .i32⟩
  | 24 => ⟨S20x16x100000, .i32⟩
  | 25 => ⟨S20x16x100000, .i32⟩
  | 26 => ⟨S20x16x100000, .i32⟩
  | 27 => ⟨S20x16x100000, .i32⟩
  | 28 => ⟨S_, .i32⟩
  | 29 => ⟨S20x16x100000, .i32⟩
  | 30 => ⟨S20x16x100000, .i32⟩
  | 31 => ⟨S_, .i32⟩
  | 32 => ⟨S20x16x100000, .i32⟩
  | 33 => ⟨S20x16x100000, .i32⟩
  | 34 => ⟨S20x16x100000, .i32⟩
  | 35 => ⟨S20x16x100000, .i32⟩
  | 36 => ⟨S20x16x100000, .i32⟩
  | 37 => ⟨S20x16x100000, .i32⟩
  | 38 => ⟨S20x16x100000, .i32⟩
  | 39 => ⟨S20x16x100000, .i32⟩
  | 40 => ⟨S_, .i32⟩
  | 41 => ⟨S20x16x100000, .i32⟩
  | 42 => ⟨S20x16x100000, .i32⟩
  | 43 => ⟨S20x16x100000, .i32⟩
  | 44 => ⟨S_, .i32⟩
  | 45 => ⟨S20x16x100000, .i32⟩
  | 46 => ⟨S20x16x100000, .i32⟩
  | 47 => ⟨S_, .i32⟩
  | 48 => ⟨S20x16x100000, .i32⟩
  | 49 => ⟨S20x16x100000, .i32⟩
  | 50 => ⟨S20x16x100000, .i32⟩
  | 51 => ⟨S20x16x100000, .i32⟩
  | 52 => ⟨S20x16x100000, .i32⟩
  | 53 => ⟨S_, .i32⟩
  | 54 => ⟨S20x16x100000, .i32⟩
  | 55 => ⟨S20x16x100000, .i32⟩
  | 56 => ⟨S_, .i32⟩
  | 57 => ⟨S20x16x100000, .i32⟩
  | 58 => ⟨S20x16x100000, .i32⟩
  | 59 => ⟨S20x16x100000, .i32⟩
  | 60 => ⟨S20x16x100000, .i32⟩
  | 61 => ⟨S20x16x100000, .i32⟩
  | 62 => ⟨S_, .i32⟩
  | 63 => ⟨S20x16x100000, .i32⟩
  | 64 => ⟨S20x16x100000, .i32⟩
  | 65 => ⟨S_, .i32⟩
  | 66 => ⟨S20x16x100000, .i32⟩
  | 67 => ⟨S20x16x100000, .i32⟩
  | 68 => ⟨S20x16x100000, .i32⟩
  | 69 => ⟨S20x16x100000, .i32⟩
  | 70 => ⟨S20x16x100000, .i32⟩
  | 71 => ⟨S_, .i32⟩
  | 72 => ⟨S20x16x100000, .i32⟩
  | 73 => ⟨S20x16x100000, .i32⟩
  | 74 => ⟨S_, .i32⟩
  | 75 => ⟨S20x16x100000, .i32⟩
  | 76 => ⟨S20x16x100000, .i32⟩
  | 77 => ⟨S20x16x100000, .i32⟩
  | 78 => ⟨S20x16x100000, .i32⟩
  | 79 => ⟨S20x16x100000, .i32⟩
  | 80 => ⟨S20x16x100000, .i32⟩
  | 81 => ⟨S20x16x100000, .i32⟩
  | 82 => ⟨S20x16x100000, .i32⟩
  | 83 => ⟨S_, .i32⟩
  | 84 => ⟨S20x16x100000, .i32⟩
  | 85 => ⟨S20x16x100000, .i32⟩
  | 86 => ⟨S20x16x100000, .i32⟩
  | 87 => ⟨S_, .i32⟩
  | 88 => ⟨S20x16x100000, .i32⟩
  | 89 => ⟨S20x16x100000, .i32⟩
  | 90 => ⟨S_, .i32⟩
  | 91 => ⟨S20x16x100000, .i32⟩
  | 92 => ⟨S20x16x100000, .i32⟩
  | 93 => ⟨S20x16x100000, .i32⟩
  | 94 => ⟨S20x16x100000, .i32⟩
  | 95 => ⟨S20x16x100000, .i32⟩
  | 96 => ⟨S_, .i32⟩
  | 97 => ⟨S20x16x100000, .i32⟩
  | 98 => ⟨S20x16x100000, .i32⟩
  | 99 => ⟨S_, .i32⟩
  | 100 => ⟨S20x16x100000, .i32⟩
  | 101 => ⟨S20x16x100000, .i32⟩
  | 102 => ⟨S20x16x100000, .i32⟩
  | 103 => ⟨S20x16x100000, .i32⟩
  | 104 => ⟨S20x16x100000, .i32⟩
  | 105 => ⟨S_, .i32⟩
  | 106 => ⟨S20x16x100000, .i32⟩
  | 107 => ⟨S20x16x100000, .i32⟩
  | 108 => ⟨S_, .i32⟩
  | 109 => ⟨S20x16x100000, .i32⟩
  | 110 => ⟨S20x16x100000, .i32⟩
  | 111 => ⟨S20x16x100000, .i32⟩
  | 112 => ⟨S20x16x100000, .i32⟩
  | 113 => ⟨S20x16x100000, .i32⟩
  | 114 => ⟨S_, .i32⟩
  | 115 => ⟨S20x16x100000, .i32⟩
  | 116 => ⟨S20x16x100000, .i32⟩
  | 117 => ⟨S_, .i32⟩
  | 118 => ⟨S20x16x100000, .i32⟩
  | 119 => ⟨S20x16x100000, .i32⟩
  | 120 => ⟨S20x16x100000, .i32⟩
  | 121 => ⟨S20x16x100000, .i32⟩
  | 122 => ⟨S20x16x100000, .i32⟩
  | 123 => ⟨S20x16x100000, .i32⟩
  | 124 => ⟨S20x16x100000, .i32⟩
  | 125 => ⟨S20x16x100000, .i32⟩
  | 126 => ⟨S_, .i32⟩
  | 127 => ⟨S20x16x100000, .i32⟩
  | _ => ⟨S20x16x100000, .f32⟩

abbrev hbmTy0_2 (i : Nat) : BufTy := match i % 128 with
  | 0 => ⟨S20x16x100000, .i32⟩
  | 1 => ⟨S20x16x100000, .i32⟩
  | 2 => ⟨S_, .i32⟩
  | 3 => ⟨S20x16x100000, .i32⟩
  | 4 => ⟨S20x16x100000, .i32⟩
  | 5 => ⟨S_, .i32⟩
  | 6 => ⟨S20x16x100000, .i32⟩
  | 7 => ⟨S20x16x100000, .i32⟩
  | 8 => ⟨S20x16x100000, .f32⟩
  | 9 => ⟨S_, .f32⟩
  | 10 => ⟨S20x16x100000, .f32⟩
  | 11 => ⟨S20x16x100000, .f32⟩
  | 12 => ⟨S_, .f32⟩
  | 13 => ⟨S20x16x100000, .f32⟩
  | 14 => ⟨S20x16x100000, .f32⟩
  | 15 => ⟨S_, .f32⟩
  | 16 => ⟨S20x16x100000, .f32⟩
  | 17 => ⟨S20x16x100000, .f32⟩
  | 18 => ⟨S_, .f32⟩
  | 19 => ⟨S20x16x100000, .f32⟩
  | 20 => ⟨S20x16x100000, .f32⟩
  | 21 => ⟨S20x16x100000, .f32⟩
  | 22 => ⟨S20x16x100000, .f32⟩
  | 23 => ⟨S20x16x100000, .f32⟩
  | 24 => ⟨S20x16x100000, .f32⟩
  | 25 => ⟨S20x16x100000, .f32⟩
  | 26 => ⟨S20x16x100000, .i32⟩
  | 27 => ⟨S_, .f32⟩
  | 28 => ⟨S_, .i32⟩
  | 29 => ⟨S20x16, .f32⟩
  | 30 => ⟨S20x16, .i32⟩
  | 31 => ⟨S_, .f32⟩
  | 32 => ⟨S20x16, .f32⟩
  | 33 => ⟨S_, .f32⟩
  | 34 => ⟨S20x16, .f32⟩
  | 35 => ⟨S20x16, .f32⟩
  | 36 => ⟨S20x16x1, .f32⟩
  | 37 => ⟨S20x16x100000, .f32⟩
  | 38 => ⟨S20x16x100000, .f32⟩
  | 39 => ⟨S20x16x100000, .f32⟩
  | 40 => ⟨S_, .f32⟩
  | 41 => ⟨S20x16, .f32⟩
  | 42 => ⟨S20x16x1, .f32⟩
  | 43 => ⟨S20x16x1, .f32⟩
  | 44 => ⟨S20x16x100000, .f32⟩
  | 45 => ⟨S20x16x100000, .f32⟩
  | 46 => ⟨S20x16x1, .i32⟩
  | 47 => ⟨S_, .i32⟩
  | 48 => ⟨S20x16x1, .i32⟩
  | 49 => ⟨S20x16x1, .i1⟩
  | 50 => ⟨S_, .i32⟩
  | 51 => ⟨S20x16x1, .i32⟩
  | 52 => ⟨S20x16x1, .i32⟩
  | 53 => ⟨S20x16x1, .i32⟩
  | 54 => ⟨S20x16x1x1, .i32⟩
  | 55 => ⟨S1, .i32⟩
  | 56 => ⟨S_, .i32⟩
  | 57 => ⟨S20x16x1x1, .i32⟩
  | 58 => ⟨S20x16x1x1, .i1⟩
  | 59 => ⟨S1x1x1x1, .i32⟩
  | 60 => ⟨S20x16x1x1, .i32⟩
  | 61 => ⟨S20x16x1x1, .i1⟩
  | 62 => ⟨S20x16x1x1, .i1⟩
  | 63 => ⟨S_, .i1⟩
  | 64 => ⟨S20x16x1, .i1⟩
  | 65 => ⟨S20x16x1, .f32⟩
  | 66 => ⟨S_, .f32⟩
  | 67 => ⟨S20x16x1, .f32⟩
  | 68 => ⟨S20x16x1, .f32⟩
  | 69 => ⟨S20x16, .f32⟩
  | 70 => ⟨S_, .f32⟩
  | 71 => ⟨S20, .f32⟩
  | 72 => ⟨S20, .f32⟩
  | 73 => ⟨S_, .f32⟩
  | 74 => ⟨S_, .f32⟩
  | 75 => ⟨S20, .f32⟩
  | 76 => ⟨S_, .i32⟩
  | 77 => ⟨S20, .f32⟩
  | 78 => ⟨S_, .i32⟩
  | 79 => ⟨S_, .f32⟩
  | 80 => ⟨S20, .f32⟩
  | 81 => ⟨S_, .i32⟩
  | 82 => ⟨S_, .i1⟩
  | 83 => ⟨S1, .f32⟩
  | 84 => ⟨S_, .f32⟩
  | 85 => ⟨S_, .f32⟩
  | 86 => ⟨S_, .f32⟩
  | 87 => ⟨S_, .f32⟩
  | 88 => ⟨S1, .f32⟩
  | 89 => ⟨S20, .f32⟩
  | 90 => ⟨S_, .i32⟩
  | 91 => ⟨S_, .i32⟩
  | 92 => ⟨S_, .f32⟩
  | 93 => ⟨S_, .f32⟩
  | 94 => ⟨S_, .f32⟩
  | 95 => ⟨S_, .f32⟩
  | 96 => ⟨S20, .f32⟩
  | 97 => ⟨S20, .f32⟩
  | 98 => ⟨S_, .i32⟩
  | 99 => ⟨S_, .f32⟩
  | 100 => ⟨S_, .f32⟩
  | 101 => ⟨S1, .f32⟩
  | 102 => ⟨S_, .f32⟩
  | 103 => ⟨S1, .f32⟩
  | 104 => ⟨S1, .f32⟩
  | 105 => ⟨S20, .f32⟩
  | 106 => ⟨S20, .f32⟩
  | 107 => ⟨S20, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S20, .f32⟩
  | 121 => ⟨S20, .f32⟩
  | 122 => ⟨S_, .f32⟩
  | 123 => ⟨S20, .f32⟩
  | 124 => ⟨S20, .f32⟩
  | 125 => ⟨S20, .f32⟩
  | 126 => ⟨S_, .f32⟩
  | 127 => ⟨S_, .f32⟩
  | _ => ⟨S20x16x100000, .f32⟩

abbrev hbmTy (i : Nat) : BufTy := match i / 128 with
  | 0 => hbmTy0_0 i
  | 1 => hbmTy0_1 i
  | 2 => hbmTy0_2 i
  | _ => ⟨S20x16x100000, .f32⟩

abbrev bufTy : (tb : Table) → Fin (tcTables nBuf tb) → BufTy
  | .hbm, ⟨i, _⟩ => hbmTy i
  | _, _ => ⟨S20x16x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_c_0 : Ref sig .tc := ⟨.hbm, 43, rfl⟩
abbrev main_call0_v7 : Ref sig .tc := ⟨.hbm, 44, rfl⟩
abbrev main_call0_v8 : Ref sig .tc := ⟨.hbm, 45, rfl⟩
abbrev main_call0_c_1 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_c_2 : Ref sig .tc := ⟨.hbm, 52, rfl⟩
abbrev main_call0_v14 : Ref sig .tc := ⟨.hbm, 53, rfl⟩
abbrev main_call0_v15 : Ref sig .tc := ⟨.hbm, 54, rfl⟩
abbrev main_call0_c_3 : Ref sig .tc := ⟨.hbm, 55, rfl⟩
abbrev main_call0_v16 : Ref sig .tc := ⟨.hbm, 56, rfl⟩
abbrev main_call0_v17 : Ref sig .tc := ⟨.hbm, 57, rfl⟩
abbrev main_call0_v18 : Ref sig .tc := ⟨.hbm, 58, rfl⟩
abbrev main_call0_v19 : Ref sig .tc := ⟨.hbm, 59, rfl⟩
abbrev main_call0_v20 : Ref sig .tc := ⟨.hbm, 60, rfl⟩
abbrev main_call0_c_4 : Ref sig .tc := ⟨.hbm, 61, rfl⟩
abbrev main_call0_v21 : Ref sig .tc := ⟨.hbm, 62, rfl⟩
abbrev main_call0_v22 : Ref sig .tc := ⟨.hbm, 63, rfl⟩
abbrev main_call0_c_5 : Ref sig .tc := ⟨.hbm, 64, rfl⟩
abbrev main_call0_v23 : Ref sig .tc := ⟨.hbm, 65, rfl⟩
abbrev main_call0_v24 : Ref sig .tc := ⟨.hbm, 66, rfl⟩
abbrev main_call0_v25 : Ref sig .tc := ⟨.hbm, 67, rfl⟩
abbrev main_call0_v26 : Ref sig .tc := ⟨.hbm, 68, rfl⟩
abbrev main_call0_v27 : Ref sig .tc := ⟨.hbm, 69, rfl⟩
abbrev main_call0_c_6 : Ref sig .tc := ⟨.hbm, 70, rfl⟩
abbrev main_call0_v28 : Ref sig .tc := ⟨.hbm, 71, rfl⟩
abbrev main_call0_v29 : Ref sig .tc := ⟨.hbm, 72, rfl⟩
abbrev main_call0_c_7 : Ref sig .tc := ⟨.hbm, 73, rfl⟩
abbrev main_call0_v30 : Ref sig .tc := ⟨.hbm, 74, rfl⟩
abbrev main_call0_v31 : Ref sig .tc := ⟨.hbm, 75, rfl⟩
abbrev main_call0_v32 : Ref sig .tc := ⟨.hbm, 76, rfl⟩
abbrev main_call0_v33 : Ref sig .tc := ⟨.hbm, 77, rfl⟩
abbrev main_call0_v34 : Ref sig .tc := ⟨.hbm, 78, rfl⟩
abbrev main_call0_v35 : Ref sig .tc := ⟨.hbm, 79, rfl⟩
abbrev main_call0_v36 : Ref sig .tc := ⟨.hbm, 80, rfl⟩
abbrev main_call0_v37 : Ref sig .tc := ⟨.hbm, 81, rfl⟩
abbrev main_call0_c_8 : Ref sig .tc := ⟨.hbm, 82, rfl⟩
abbrev main_call0_v38 : Ref sig .tc := ⟨.hbm, 83, rfl⟩
abbrev main_call0_v39 : Ref sig .tc := ⟨.hbm, 84, rfl⟩
abbrev main_call0_v40 : Ref sig .tc := ⟨.hbm, 85, rfl⟩
abbrev main_call0_c_9 : Ref sig .tc := ⟨.hbm, 86, rfl⟩
abbrev main_call0_v41 : Ref sig .tc := ⟨.hbm, 87, rfl⟩
abbrev main_call0_v42 : Ref sig .tc := ⟨.hbm, 88, rfl⟩
abbrev main_call0_c_10 : Ref sig .tc := ⟨.hbm, 89, rfl⟩
abbrev main_call0_v43 : Ref sig .tc := ⟨.hbm, 90, rfl⟩
abbrev main_call0_v44 : Ref sig .tc := ⟨.hbm, 91, rfl⟩
abbrev main_call0_v45 : Ref sig .tc := ⟨.hbm, 92, rfl⟩
abbrev main_call0_v46 : Ref sig .tc := ⟨.hbm, 93, rfl⟩
abbrev main_call0_v47 : Ref sig .tc := ⟨.hbm, 94, rfl⟩
abbrev main_call0_c_11 : Ref sig .tc := ⟨.hbm, 95, rfl⟩
abbrev main_call0_v48 : Ref sig .tc := ⟨.hbm, 96, rfl⟩
abbrev main_call0_v49 : Ref sig .tc := ⟨.hbm, 97, rfl⟩
abbrev main_call0_c_12 : Ref sig .tc := ⟨.hbm, 98, rfl⟩
abbrev main_call0_v50 : Ref sig .tc := ⟨.hbm, 99, rfl⟩
abbrev main_call0_v51 : Ref sig .tc := ⟨.hbm, 100, rfl⟩
abbrev main_call0_v52 : Ref sig .tc := ⟨.hbm, 101, rfl⟩
abbrev main_call0_v53 : Ref sig .tc := ⟨.hbm, 102, rfl⟩
abbrev main_call0_v54 : Ref sig .tc := ⟨.hbm, 103, rfl⟩
abbrev main_call0_c_13 : Ref sig .tc := ⟨.hbm, 104, rfl⟩
abbrev main_call0_v55 : Ref sig .tc := ⟨.hbm, 105, rfl⟩
abbrev main_call0_v56 : Ref sig .tc := ⟨.hbm, 106, rfl⟩
abbrev main_call0_c_14 : Ref sig .tc := ⟨.hbm, 107, rfl⟩
abbrev main_call0_v57 : Ref sig .tc := ⟨.hbm, 108, rfl⟩
abbrev main_call0_v58 : Ref sig .tc := ⟨.hbm, 109, rfl⟩
abbrev main_call0_v59 : Ref sig .tc := ⟨.hbm, 110, rfl⟩
abbrev main_call0_v60 : Ref sig .tc := ⟨.hbm, 111, rfl⟩
abbrev main_call0_v61 : Ref sig .tc := ⟨.hbm, 112, rfl⟩
abbrev main_call0_c_15 : Ref sig .tc := ⟨.hbm, 113, rfl⟩
abbrev main_call0_v62 : Ref sig .tc := ⟨.hbm, 114, rfl⟩
abbrev main_call0_v63 : Ref sig .tc := ⟨.hbm, 115, rfl⟩
abbrev main_call0_c_16 : Ref sig .tc := ⟨.hbm, 116, rfl⟩
abbrev main_call0_v64 : Ref sig .tc := ⟨.hbm, 117, rfl⟩
abbrev main_call0_v65 : Ref sig .tc := ⟨.hbm, 118, rfl⟩
abbrev main_call0_v66 : Ref sig .tc := ⟨.hbm, 119, rfl⟩
abbrev main_call0_v67 : Ref sig .tc := ⟨.hbm, 120, rfl⟩
abbrev main_call0_v68 : Ref sig .tc := ⟨.hbm, 121, rfl⟩
abbrev main_call0_v69 : Ref sig .tc := ⟨.hbm, 122, rfl⟩
abbrev main_call0_v70 : Ref sig .tc := ⟨.hbm, 123, rfl⟩
abbrev main_call0_v71 : Ref sig .tc := ⟨.hbm, 124, rfl⟩
abbrev main_call0_c_17 : Ref sig .tc := ⟨.hbm, 125, rfl⟩
abbrev main_call0_v72 : Ref sig .tc := ⟨.hbm, 126, rfl⟩
abbrev main_call0_v73 : Ref sig .tc := ⟨.hbm, 127, rfl⟩
abbrev main_call0_v74 : Ref sig .tc := ⟨.hbm, 128, rfl⟩
abbrev main_call0_c_18 : Ref sig .tc := ⟨.hbm, 129, rfl⟩
abbrev main_call0_v75 : Ref sig .tc := ⟨.hbm, 130, rfl⟩
abbrev main_call0_v76 : Ref sig .tc := ⟨.hbm, 131, rfl⟩
abbrev main_call0_c_19 : Ref sig .tc := ⟨.hbm, 132, rfl⟩
abbrev main_call0_v77 : Ref sig .tc := ⟨.hbm, 133, rfl⟩
abbrev main_call0_v78 : Ref sig .tc := ⟨.hbm, 134, rfl⟩
abbrev main_call0_v79 : Ref sig .tc := ⟨.hbm, 135, rfl⟩
abbrev main_call0_v80 : Ref sig .tc := ⟨.hbm, 136, rfl⟩
abbrev main_call0_v81 : Ref sig .tc := ⟨.hbm, 137, rfl⟩
abbrev main_call0_c_20 : Ref sig .tc := ⟨.hbm, 138, rfl⟩
abbrev main_call0_v82 : Ref sig .tc := ⟨.hbm, 139, rfl⟩
abbrev main_call0_v83 : Ref sig .tc := ⟨.hbm, 140, rfl⟩
abbrev main_call0_c_21 : Ref sig .tc := ⟨.hbm, 141, rfl⟩
abbrev main_call0_v84 : Ref sig .tc := ⟨.hbm, 142, rfl⟩
abbrev main_call0_v85 : Ref sig .tc := ⟨.hbm, 143, rfl⟩
abbrev main_call0_v86 : Ref sig .tc := ⟨.hbm, 144, rfl⟩
abbrev main_call0_v87 : Ref sig .tc := ⟨.hbm, 145, rfl⟩
abbrev main_call0_v88 : Ref sig .tc := ⟨.hbm, 146, rfl⟩
abbrev main_call0_c_22 : Ref sig .tc := ⟨.hbm, 147, rfl⟩
abbrev main_call0_v89 : Ref sig .tc := ⟨.hbm, 148, rfl⟩
abbrev main_call0_v90 : Ref sig .tc := ⟨.hbm, 149, rfl⟩
abbrev main_call0_c_23 : Ref sig .tc := ⟨.hbm, 150, rfl⟩
abbrev main_call0_v91 : Ref sig .tc := ⟨.hbm, 151, rfl⟩
abbrev main_call0_v92 : Ref sig .tc := ⟨.hbm, 152, rfl⟩
abbrev main_call0_v93 : Ref sig .tc := ⟨.hbm, 153, rfl⟩
abbrev main_call0_v94 : Ref sig .tc := ⟨.hbm, 154, rfl⟩
abbrev main_call0_v95 : Ref sig .tc := ⟨.hbm, 155, rfl⟩
abbrev main_call0_c_24 : Ref sig .tc := ⟨.hbm, 156, rfl⟩
abbrev main_call0_v96 : Ref sig .tc := ⟨.hbm, 157, rfl⟩
abbrev main_call0_v97 : Ref sig .tc := ⟨.hbm, 158, rfl⟩
abbrev main_call0_c_25 : Ref sig .tc := ⟨.hbm, 159, rfl⟩
abbrev main_call0_v98 : Ref sig .tc := ⟨.hbm, 160, rfl⟩
abbrev main_call0_v99 : Ref sig .tc := ⟨.hbm, 161, rfl⟩
abbrev main_call0_v100 : Ref sig .tc := ⟨.hbm, 162, rfl⟩
abbrev main_call0_v101 : Ref sig .tc := ⟨.hbm, 163, rfl⟩
abbrev main_call0_v102 : Ref sig .tc := ⟨.hbm, 164, rfl⟩
abbrev main_call0_v103 : Ref sig .tc := ⟨.hbm, 165, rfl⟩
abbrev main_call0_v104 : Ref sig .tc := ⟨.hbm, 166, rfl⟩
abbrev main_call0_v105 : Ref sig .tc := ⟨.hbm, 167, rfl⟩
abbrev main_call0_c_26 : Ref sig .tc := ⟨.hbm, 168, rfl⟩
abbrev main_call0_v106 : Ref sig .tc := ⟨.hbm, 169, rfl⟩
abbrev main_call0_v107 : Ref sig .tc := ⟨.hbm, 170, rfl⟩
abbrev main_call0_v108 : Ref sig .tc := ⟨.hbm, 171, rfl⟩
abbrev main_call0_c_27 : Ref sig .tc := ⟨.hbm, 172, rfl⟩
abbrev main_call0_v109 : Ref sig .tc := ⟨.hbm, 173, rfl⟩
abbrev main_call0_v110 : Ref sig .tc := ⟨.hbm, 174, rfl⟩
abbrev main_call0_c_28 : Ref sig .tc := ⟨.hbm, 175, rfl⟩
abbrev main_call0_v111 : Ref sig .tc := ⟨.hbm, 176, rfl⟩
abbrev main_call0_v112 : Ref sig .tc := ⟨.hbm, 177, rfl⟩
abbrev main_call0_v113 : Ref sig .tc := ⟨.hbm, 178, rfl⟩
abbrev main_call0_v114 : Ref sig .tc := ⟨.hbm, 179, rfl⟩
abbrev main_call0_v115 : Ref sig .tc := ⟨.hbm, 180, rfl⟩
abbrev main_call0_c_29 : Ref sig .tc := ⟨.hbm, 181, rfl⟩
abbrev main_call0_v116 : Ref sig .tc := ⟨.hbm, 182, rfl⟩
abbrev main_call0_v117 : Ref sig .tc := ⟨.hbm, 183, rfl⟩
abbrev main_call0_c_30 : Ref sig .tc := ⟨.hbm, 184, rfl⟩
abbrev main_call0_v118 : Ref sig .tc := ⟨.hbm, 185, rfl⟩
abbrev main_call0_v119 : Ref sig .tc := ⟨.hbm, 186, rfl⟩
abbrev main_call0_v120 : Ref sig .tc := ⟨.hbm, 187, rfl⟩
abbrev main_call0_v121 : Ref sig .tc := ⟨.hbm, 188, rfl⟩
abbrev main_call0_v122 : Ref sig .tc := ⟨.hbm, 189, rfl⟩
abbrev main_call0_c_31 : Ref sig .tc := ⟨.hbm, 190, rfl⟩
abbrev main_call0_v123 : Ref sig .tc := ⟨.hbm, 191, rfl⟩
abbrev main_call0_v124 : Ref sig .tc := ⟨.hbm, 192, rfl⟩
abbrev main_call0_c_32 : Ref sig .tc := ⟨.hbm, 193, rfl⟩
abbrev main_call0_v125 : Ref sig .tc := ⟨.hbm, 194, rfl⟩
abbrev main_call0_v126 : Ref sig .tc := ⟨.hbm, 195, rfl⟩
abbrev main_call0_v127 : Ref sig .tc := ⟨.hbm, 196, rfl⟩
abbrev main_call0_v128 : Ref sig .tc := ⟨.hbm, 197, rfl⟩
abbrev main_call0_v129 : Ref sig .tc := ⟨.hbm, 198, rfl⟩
abbrev main_call0_c_33 : Ref sig .tc := ⟨.hbm, 199, rfl⟩
abbrev main_call0_v130 : Ref sig .tc := ⟨.hbm, 200, rfl⟩
abbrev main_call0_v131 : Ref sig .tc := ⟨.hbm, 201, rfl⟩
abbrev main_call0_c_34 : Ref sig .tc := ⟨.hbm, 202, rfl⟩
abbrev main_call0_v132 : Ref sig .tc := ⟨.hbm, 203, rfl⟩
abbrev main_call0_v133 : Ref sig .tc := ⟨.hbm, 204, rfl⟩
abbrev main_call0_v134 : Ref sig .tc := ⟨.hbm, 205, rfl⟩
abbrev main_call0_v135 : Ref sig .tc := ⟨.hbm, 206, rfl⟩
abbrev main_call0_v136 : Ref sig .tc := ⟨.hbm, 207, rfl⟩
abbrev main_call0_v137 : Ref sig .tc := ⟨.hbm, 208, rfl⟩
abbrev main_call0_v138 : Ref sig .tc := ⟨.hbm, 209, rfl⟩
abbrev main_call0_v139 : Ref sig .tc := ⟨.hbm, 210, rfl⟩
abbrev main_call0_c_35 : Ref sig .tc := ⟨.hbm, 211, rfl⟩
abbrev main_call0_v140 : Ref sig .tc := ⟨.hbm, 212, rfl⟩
abbrev main_call0_v141 : Ref sig .tc := ⟨.hbm, 213, rfl⟩
abbrev main_call0_v142 : Ref sig .tc := ⟨.hbm, 214, rfl⟩
abbrev main_call0_c_36 : Ref sig .tc := ⟨.hbm, 215, rfl⟩
abbrev main_call0_v143 : Ref sig .tc := ⟨.hbm, 216, rfl⟩
abbrev main_call0_v144 : Ref sig .tc := ⟨.hbm, 217, rfl⟩
abbrev main_call0_c_37 : Ref sig .tc := ⟨.hbm, 218, rfl⟩
abbrev main_call0_v145 : Ref sig .tc := ⟨.hbm, 219, rfl⟩
abbrev main_call0_v146 : Ref sig .tc := ⟨.hbm, 220, rfl⟩
abbrev main_call0_v147 : Ref sig .tc := ⟨.hbm, 221, rfl⟩
abbrev main_call0_v148 : Ref sig .tc := ⟨.hbm, 222, rfl⟩
abbrev main_call0_v149 : Ref sig .tc := ⟨.hbm, 223, rfl⟩
abbrev main_call0_c_38 : Ref sig .tc := ⟨.hbm, 224, rfl⟩
abbrev main_call0_v150 : Ref sig .tc := ⟨.hbm, 225, rfl⟩
abbrev main_call0_v151 : Ref sig .tc := ⟨.hbm, 226, rfl⟩
abbrev main_call0_c_39 : Ref sig .tc := ⟨.hbm, 227, rfl⟩
abbrev main_call0_v152 : Ref sig .tc := ⟨.hbm, 228, rfl⟩
abbrev main_call0_v153 : Ref sig .tc := ⟨.hbm, 229, rfl⟩
abbrev main_call0_v154 : Ref sig .tc := ⟨.hbm, 230, rfl⟩
abbrev main_call0_v155 : Ref sig .tc := ⟨.hbm, 231, rfl⟩
abbrev main_call0_v156 : Ref sig .tc := ⟨.hbm, 232, rfl⟩
abbrev main_call0_c_40 : Ref sig .tc := ⟨.hbm, 233, rfl⟩
abbrev main_call0_v157 : Ref sig .tc := ⟨.hbm, 234, rfl⟩
abbrev main_call0_v158 : Ref sig .tc := ⟨.hbm, 235, rfl⟩
abbrev main_call0_c_41 : Ref sig .tc := ⟨.hbm, 236, rfl⟩
abbrev main_call0_v159 : Ref sig .tc := ⟨.hbm, 237, rfl⟩
abbrev main_call0_v160 : Ref sig .tc := ⟨.hbm, 238, rfl⟩
abbrev main_call0_v161 : Ref sig .tc := ⟨.hbm, 239, rfl⟩
abbrev main_call0_v162 : Ref sig .tc := ⟨.hbm, 240, rfl⟩
abbrev main_call0_v163 : Ref sig .tc := ⟨.hbm, 241, rfl⟩
abbrev main_call0_c_42 : Ref sig .tc := ⟨.hbm, 242, rfl⟩
abbrev main_call0_v164 : Ref sig .tc := ⟨.hbm, 243, rfl⟩
abbrev main_call0_v165 : Ref sig .tc := ⟨.hbm, 244, rfl⟩
abbrev main_call0_c_43 : Ref sig .tc := ⟨.hbm, 245, rfl⟩
abbrev main_call0_v166 : Ref sig .tc := ⟨.hbm, 246, rfl⟩
abbrev main_call0_v167 : Ref sig .tc := ⟨.hbm, 247, rfl⟩
abbrev main_call0_v168 : Ref sig .tc := ⟨.hbm, 248, rfl⟩
abbrev main_call0_v169 : Ref sig .tc := ⟨.hbm, 249, rfl⟩
abbrev main_call0_v170 : Ref sig .tc := ⟨.hbm, 250, rfl⟩
abbrev main_v26_0 : Ref sig .tc := ⟨.hbm, 251, rfl⟩
abbrev main_call0_v172 : Ref sig .tc := ⟨.hbm, 252, rfl⟩
abbrev main_call0_v173 : Ref sig .tc := ⟨.hbm, 253, rfl⟩
abbrev main_call0_c_44 : Ref sig .tc := ⟨.hbm, 254, rfl⟩
abbrev main_call0_v174 : Ref sig .tc := ⟨.hbm, 255, rfl⟩
abbrev main_v26_1 : Ref sig .tc := ⟨.hbm, 256, rfl⟩
abbrev main_v27 : Ref sig .tc := ⟨.hbm, 257, rfl⟩
abbrev main_c_6 : Ref sig .tc := ⟨.hbm, 258, rfl⟩
abbrev main_v28 : Ref sig .tc := ⟨.hbm, 259, rfl⟩
abbrev main_v29 : Ref sig .tc := ⟨.hbm, 260, rfl⟩
abbrev main_c_7 : Ref sig .tc := ⟨.hbm, 261, rfl⟩
abbrev main_v30 : Ref sig .tc := ⟨.hbm, 262, rfl⟩
abbrev main_v31 : Ref sig .tc := ⟨.hbm, 263, rfl⟩
abbrev main_v32 : Ref sig .tc := ⟨.hbm, 264, rfl⟩
abbrev main_cst : Ref sig .tc := ⟨.hbm, 265, rfl⟩
abbrev main_v33 : Ref sig .tc := ⟨.hbm, 266, rfl⟩
abbrev main_v34 : Ref sig .tc := ⟨.hbm, 267, rfl⟩
abbrev main_cst_8 : Ref sig .tc := ⟨.hbm, 268, rfl⟩
abbrev main_v35 : Ref sig .tc := ⟨.hbm, 269, rfl⟩
abbrev main_v36 : Ref sig .tc := ⟨.hbm, 270, rfl⟩
abbrev main_cst_9 : Ref sig .tc := ⟨.hbm, 271, rfl⟩
abbrev main_v37 : Ref sig .tc := ⟨.hbm, 272, rfl⟩
abbrev main_v38 : Ref sig .tc := ⟨.hbm, 273, rfl⟩
abbrev main_cst_10 : Ref sig .tc := ⟨.hbm, 274, rfl⟩
abbrev main_v39 : Ref sig .tc := ⟨.hbm, 275, rfl⟩
abbrev main_v40 : Ref sig .tc := ⟨.hbm, 276, rfl⟩
abbrev main_v41 : Ref sig .tc := ⟨.hbm, 277, rfl⟩
abbrev main_v42 : Ref sig .tc := ⟨.hbm, 278, rfl⟩
abbrev main_v43 : Ref sig .tc := ⟨.hbm, 279, rfl⟩
abbrev main_v44 : Ref sig .tc := ⟨.hbm, 280, rfl⟩
abbrev main_v45 : Ref sig .tc := ⟨.hbm, 281, rfl⟩
abbrev main_call1_v0 : Ref sig .tc := ⟨.hbm, 282, rfl⟩
abbrev main_call1_cst : Ref sig .tc := ⟨.hbm, 283, rfl⟩
abbrev main_call1_c : Ref sig .tc := ⟨.hbm, 284, rfl⟩
abbrev main_call1_v1_0 : Ref sig .tc := ⟨.hbm, 285, rfl⟩
abbrev main_v46 : Ref sig .tc := ⟨.hbm, 286, rfl⟩
abbrev main_call2_cst : Ref sig .tc := ⟨.hbm, 287, rfl⟩
abbrev main_call2_v0 : Ref sig .tc := ⟨.hbm, 288, rfl⟩
abbrev main_call2_cst_0 : Ref sig .tc := ⟨.hbm, 289, rfl⟩
abbrev main_call2_v1 : Ref sig .tc := ⟨.hbm, 290, rfl⟩
abbrev main_call2_v2 : Ref sig .tc := ⟨.hbm, 291, rfl⟩
abbrev main_call2_v3 : Ref sig .tc := ⟨.hbm, 292, rfl⟩
abbrev main_call2_v4 : Ref sig .tc := ⟨.hbm, 293, rfl⟩
abbrev main_call2_v5 : Ref sig .tc := ⟨.hbm, 294, rfl⟩
abbrev main_call2_v6 : Ref sig .tc := ⟨.hbm, 295, rfl⟩
abbrev main_call2_cst_1 : Ref sig .tc := ⟨.hbm, 296, rfl⟩
abbrev main_call2_v7 : Ref sig .tc := ⟨.hbm, 297, rfl⟩
abbrev main_call2_v8 : Ref sig .tc := ⟨.hbm, 298, rfl⟩
abbrev main_call2_v9 : Ref sig .tc := ⟨.hbm, 299, rfl⟩
abbrev main_call2_v10 : Ref sig .tc := ⟨.hbm, 300, rfl⟩
abbrev main_v47 : Ref sig .tc := ⟨.hbm, 301, rfl⟩
abbrev main_v48 : Ref sig .tc := ⟨.hbm, 302, rfl⟩
abbrev main_call3_c : Ref sig .tc := ⟨.hbm, 303, rfl⟩
abbrev main_call3_v0 : Ref sig .tc := ⟨.hbm, 304, rfl⟩
abbrev main_call3_v1 : Ref sig .tc := ⟨.hbm, 305, rfl⟩
abbrev main_call3_c_0 : Ref sig .tc := ⟨.hbm, 306, rfl⟩
abbrev main_call3_v2 : Ref sig .tc := ⟨.hbm, 307, rfl⟩
abbrev main_call3_v3 : Ref sig .tc := ⟨.hbm, 308, rfl⟩
abbrev main_call3_v4 : Ref sig .tc := ⟨.hbm, 309, rfl⟩
abbrev main_call3_v5 : Ref sig .tc := ⟨.hbm, 310, rfl⟩
abbrev main_call3_c_1 : Ref sig .tc := ⟨.hbm, 311, rfl⟩
abbrev main_call3_c_2 : Ref sig .tc := ⟨.hbm, 312, rfl⟩
abbrev main_call3_v6 : Ref sig .tc := ⟨.hbm, 313, rfl⟩
abbrev main_call3_v7 : Ref sig .tc := ⟨.hbm, 314, rfl⟩
abbrev main_call3_v8 : Ref sig .tc := ⟨.hbm, 315, rfl⟩
abbrev main_call3_v9 : Ref sig .tc := ⟨.hbm, 316, rfl⟩
abbrev main_call3_v10 : Ref sig .tc := ⟨.hbm, 317, rfl⟩
abbrev main_call3_v11 : Ref sig .tc := ⟨.hbm, 318, rfl⟩
abbrev main_call3_c_3 : Ref sig .tc := ⟨.hbm, 319, rfl⟩
abbrev main_call3_v12 : Ref sig .tc := ⟨.hbm, 320, rfl⟩
abbrev main_call3_v13 : Ref sig .tc := ⟨.hbm, 321, rfl⟩
abbrev main_call3_cst : Ref sig .tc := ⟨.hbm, 322, rfl⟩
abbrev main_call3_v14 : Ref sig .tc := ⟨.hbm, 323, rfl⟩
abbrev main_v49 : Ref sig .tc := ⟨.hbm, 324, rfl⟩
abbrev main_v50 : Ref sig .tc := ⟨.hbm, 325, rfl⟩
abbrev main_cst_11 : Ref sig .tc := ⟨.hbm, 326, rfl⟩
abbrev main_v51 : Ref sig .tc := ⟨.hbm, 327, rfl⟩
abbrev main_v52 : Ref sig .tc := ⟨.hbm, 328, rfl⟩
abbrev main_cst_12 : Ref sig .tc := ⟨.hbm, 329, rfl⟩
abbrev main_cst_13 : Ref sig .tc := ⟨.hbm, 330, rfl⟩
abbrev main_v53 : Ref sig .tc := ⟨.hbm, 331, rfl⟩
abbrev main_c_14 : Ref sig .tc := ⟨.hbm, 332, rfl⟩
abbrev main_v54_0 : Ref sig .tc := ⟨.hbm, 333, rfl⟩
abbrev main_v54_1 : Ref sig .tc := ⟨.hbm, 334, rfl⟩
abbrev main_v54_2 : Ref sig .tc := ⟨.hbm, 335, rfl⟩
abbrev main_v54_3 : Ref sig .tc := ⟨.hbm, 336, rfl⟩
abbrev main_while0c_c_23 : Ref sig .tc := ⟨.hbm, 337, rfl⟩
abbrev main_while0c_v66 : Ref sig .tc := ⟨.hbm, 338, rfl⟩
abbrev main_while0b_call4_v0 : Ref sig .tc := ⟨.hbm, 339, rfl⟩
abbrev main_while0b_v66 : Ref sig .tc := ⟨.hbm, 340, rfl⟩
abbrev main_while0b_cst_23 : Ref sig .tc := ⟨.hbm, 341, rfl⟩
abbrev main_while0b_v67 : Ref sig .tc := ⟨.hbm, 342, rfl⟩
abbrev main_while0b_v68 : Ref sig .tc := ⟨.hbm, 343, rfl⟩
abbrev main_while0b_call5_v0 : Ref sig .tc := ⟨.hbm, 344, rfl⟩
abbrev main_while0b_v69 : Ref sig .tc := ⟨.hbm, 345, rfl⟩
abbrev main_while0b_c_24 : Ref sig .tc := ⟨.hbm, 346, rfl⟩
abbrev main_while0b_v70 : Ref sig .tc := ⟨.hbm, 347, rfl⟩
abbrev main_cst_15 : Ref sig .tc := ⟨.hbm, 348, rfl⟩
abbrev main_v55 : Ref sig .tc := ⟨.hbm, 349, rfl⟩
abbrev main_cst_16 : Ref sig .tc := ⟨.hbm, 350, rfl⟩
abbrev main_v56 : Ref sig .tc := ⟨.hbm, 351, rfl⟩
abbrev main_v57 : Ref sig .tc := ⟨.hbm, 352, rfl⟩
abbrev main_v58 : Ref sig .tc := ⟨.hbm, 353, rfl⟩
abbrev main_c_17 : Ref sig .tc := ⟨.hbm, 354, rfl⟩
abbrev main_call6_call0_cst : Ref sig .tc := ⟨.hbm, 355, rfl⟩
abbrev main_call6_call0_v0 : Ref sig .tc := ⟨.hbm, 356, rfl⟩
abbrev main_call6_call0_v1 : Ref sig .tc := ⟨.hbm, 357, rfl⟩
abbrev main_call6_call0_cst_0 : Ref sig .tc := ⟨.hbm, 358, rfl⟩
abbrev main_call6_call0_v2 : Ref sig .tc := ⟨.hbm, 359, rfl⟩
abbrev main_call6_call0_v3 : Ref sig .tc := ⟨.hbm, 360, rfl⟩
abbrev main_call6_call0_v4 : Ref sig .tc := ⟨.hbm, 361, rfl⟩
abbrev main_call6_call0_v5 : Ref sig .tc := ⟨.hbm, 362, rfl⟩
abbrev main_call6_call0_v6 : Ref sig .tc := ⟨.hbm, 363, rfl⟩
abbrev main_call6_call0_v7 : Ref sig .tc := ⟨.hbm, 364, rfl⟩
abbrev main_call6_call0_cst_1 : Ref sig .tc := ⟨.hbm, 365, rfl⟩
abbrev main_call6_call0_v8 : Ref sig .tc := ⟨.hbm, 366, rfl⟩
abbrev main_call6_call0_cst_2 : Ref sig .tc := ⟨.hbm, 367, rfl⟩
abbrev main_call6_call0_v9 : Ref sig .tc := ⟨.hbm, 368, rfl⟩
abbrev main_call6_call0_v10 : Ref sig .tc := ⟨.hbm, 369, rfl⟩
abbrev main_call6_call0_cst_3 : Ref sig .tc := ⟨.hbm, 370, rfl⟩
abbrev main_call6_call0_v11 : Ref sig .tc := ⟨.hbm, 371, rfl⟩
abbrev main_call6_call0_cst_4 : Ref sig .tc := ⟨.hbm, 372, rfl⟩
abbrev main_call6_call0_call0_v0 : Ref sig .tc := ⟨.hbm, 373, rfl⟩
abbrev main_call6_v0 : Ref sig .tc := ⟨.hbm, 374, rfl⟩
abbrev main_v59 : Ref sig .tc := ⟨.hbm, 375, rfl⟩
abbrev main_v60 : Ref sig .tc := ⟨.hbm, 376, rfl⟩
abbrev main_v61 : Ref sig .tc := ⟨.hbm, 377, rfl⟩
abbrev main_cst_18 : Ref sig .tc := ⟨.hbm, 378, rfl⟩
abbrev main_v62 : Ref sig .tc := ⟨.hbm, 379, rfl⟩
abbrev main_v63 : Ref sig .tc := ⟨.hbm, 380, rfl⟩
abbrev main_v64 : Ref sig .tc := ⟨.hbm, 381, rfl⟩
abbrev main_cst_19 : Ref sig .tc := ⟨.hbm, 382, rfl⟩
abbrev main_v65 : Ref sig .tc := ⟨.hbm, 383, rfl⟩

abbrev nD : Nat := 1
abbrev τ : Topo := Topo.v7x

variable {F : FTy → Type} [FloatOps F]

abbrev main_while0_count : Scf.Loop 32 := ⟨0#32, 20#32, 1#32⟩
-- ==== Proof.Word.lean ====
module

public import Idealize.ShloMosaic.PureOps.Ideal
public import Idealize.ShloMosaic.Lib.Pointwise

/-! The random word of one element: twenty rounds of additions, rotations and exclusive ors on a pair of
32-bit words, started at the pair (0, flat index + 42), with the key's words added in after every fourth
round; and the Gumbel sample made of that word. -/

@[expose] public section
noncomputable section
namespace Cert.Sampler
open Idealize.ShloMosaic

/-- A word rotated left: its shift left by `a` joined with its shift right by `b`. -/
def rot (a b x : BitVec 32) : BitVec 32 := x <<< a ||| x >>> b

/-- One round: the first word takes the sum; the second, rotated, takes the exclusive or with that sum. -/
def rnd (a b : BitVec 32) (p : BitVec 32 × BitVec 32) : BitVec 32 × BitVec 32 :=
  (p.1 + p.2, rot a b p.2 ^^^ (p.1 + p.2))

/-- The key's words `a`, `b` and the group's number `c` added to the pair. -/
def inj (a b c : BitVec 32) (p : BitVec 32 × BitVec 32) : BitVec 32 × BitVec 32 := (p.1 + a, p.2 + b + c)

/-- The pair before the first round. -/
def st0 (w : BitVec 32) : BitVec 32 × BitVec 32 := (0#32, w + 42#32)

/-- The pair after round 1. -/
def pr1 (w : BitVec 32) : BitVec 32 × BitVec 32 := rnd 13#32 19#32 (st0 w)
/-- The pair after round 2. -/
def pr2 (w : BitVec 32) : BitVec 32 × BitVec 32 := rnd 15#32 17#32 (pr1 w)
/-- The pair after round 3. -/
def pr3 (w : BitVec 32) : BitVec 32 × BitVec 32 := rnd 26#32 6#32 (pr2 w)
/-- The pair after round 4. -/
def pr4 (w : BitVec 32) : BitVec 32 × BitVec 32 := rnd 6#32 26#32 (pr3 w)
/-- The pair after round 4, the key added in. -/
def st4 (w : BitVec 32) : BitVec 32 × BitVec 32 := inj 42#32 466689008#32 1#32 (pr4 w)
/-- The pair after round 5. -/
def pr5 (w : BitVec 32) : BitVec 32 × BitVec 32 := rnd 17#32 15#32 (st4 w)
/-- The pair after round 6. -/
def pr6 (w : BitVec 32) : BitVec 32 × BitVec 32 := rnd 29#32 3#32 (pr5 w)
/-- The pair after round 7. -/
def pr7 (w : BitVec 32) : BitVec 32 × BitVec 32 := rnd 16#32 16#32 (pr6 w)
/-- The pair after round 8. -/
def pr8 (w : BitVec 32) : BitVec 32 × BitVec 32 := rnd 24#32 8#32 (pr7 w)
/-- The pair after round 8, the key added in. -/
def st8 (w : BitVec 32) : BitVec 32 × BitVec 32 := inj 466689008#32 0#32 2#32 (pr8 w)
/-- The pair after round 9. -/
def pr9 (w : BitVec 32) : BitVec 32 × BitVec 32 := rnd 13#32 19#32 (st8 w)
/-- The pair after round 10. -/
def pr10 (w : BitVec 32) : BitVec 32 × BitVec 32 := rnd 15#32 17#32 (pr9 w)
/-- The pair after round 11. -/
def pr11 (w : BitVec 32) : BitVec 32 × BitVec 32 := rnd 26#32 6#32 (pr10 w)
/-- The pair after round 12. -/
def pr12 (w : BitVec 32) : BitVec 32 × BitVec 32 := rnd 6#32 26#32 (pr11 w)
/-- The pair after round 12, the key added in. -/
def st12 (w : BitVec 32) : BitVec 32 × BitVec 32 := inj 0#32 42#32 3#32 (pr12 w)
/-- The pair after round 13. -/
def pr13 (w : BitVec 32) : BitVec 32 × BitVec 32 := rnd 17#32 15#32 (st12 w)
/-- The pair after round 14. -/
def pr14 (w : BitVec 32) : BitVec 32 × BitVec 32 := rnd 29#32 3#32 (pr13 w)
/-- The pair after round 15. -/
def pr15 (w : BitVec 32) : BitVec 32 × BitVec 32 := rnd 16#32 16#32 (pr14 w)
/-- The pair after round 16. -/
def pr16 (w : BitVec 32) : BitVec 32 × BitVec 32 := rnd 24#32 8#32 (pr15 w)
/-- The pair after round 16, the key added in. -/
def st16 (w : BitVec 32) : BitVec 32 × BitVec 32 := inj 42#32 466689008#32 4#32 (pr16 w)
/-- The pair after round 17. -/
def pr17 (w : BitVec 32) : BitVec 32 × BitVec 32 := rnd 13#32 19#32 (st16 w)
/-- The pair after round 18. -/
def pr18 (w : BitVec 32) : BitVec 32 × BitVec 32 := rnd 15#32 17#32 (pr17 w)
/-- The pair after round 19. -/
def pr19 (w : BitVec 32) : BitVec 32 × BitVec 32 := rnd 26#32 6#32 (pr18 w)
/-- The pair after round 20. -/
def pr20 (w : BitVec 32) : BitVec 32 × BitVec 32 := rnd 6#32 26#32 (pr19 w)
/-- The pair after round 20, the key added in. -/
def st20 (w : BitVec 32) : BitVec 32 × BitVec 32 := inj 466689008#32 0#32 5#32 (pr20 w)

/-- The random word of the flat index `w`. -/
def word (w : BitVec 32) : BitVec 32 := (st20 w).1 ^^^ (st20 w).2

/-- A random word read as a number between the smallest positive normal number and 1. -/
def unif (b : BitVec 32) : EReal :=
  max (Ideal.ofBits .f32 0x00800000#32)
    ((Ideal.ofBits .f32 (b >>> 9#32 ||| 1065353216#32) - 1) + Ideal.ofBits .f32 0x00800000#32)

/-- The Gumbel sample of a random word. -/
def gum (b : BitVec 32) : EReal := -Ideal.log (-Ideal.log (unif b))

/-- The sampled score of column `c` of row `R`: the entry plus its Gumbel sample. -/
def samp (R : ℕ) (x : ℕ → EReal) (c : ℕ) : EReal := x c + gum (word (BitVec.ofNat 32 (R * 100000 + c)))

/-- The logarithm of a number above −∞ and not above 0, or of −∞, is −∞; of +∞, +∞. -/
theorem log_coe (r : ℝ) : Ideal.log (r : EReal) = if r ≤ 0 then ⊥ else ((Real.log r : ℝ) : EReal) := rfl
/-- The logarithm of +∞. -/
theorem log_top : Ideal.log ⊤ = ⊤ := rfl
/-- The logarithm of −∞. -/
theorem log_bot : Ideal.log ⊥ = ⊥ := rfl

/-- A Gumbel sample is never −∞: its argument is at least the smallest positive normal number. -/
theorem gum_ne_bot (b : BitVec 32) : gum b ≠ ⊥ := by
  have htiny : (0 : EReal) < Ideal.ofBits .f32 0x00800000#32 := by
    simp [Ideal.ofBits, Ideal.ieee, -EReal.coe_mul]
  have hu : 0 < unif b := lt_of_lt_of_le htiny (le_max_left _ _)
  have h1 : Ideal.log (unif b) ≠ ⊥ := by
    generalize unif b = u at hu
    induction u using EReal.rec with
    | bot => exact absurd hu (by simp)
    | coe r =>
      have hr : 0 < r := by exact_mod_cast hu
      rw [log_coe, if_neg (not_le.2 hr)]
      exact EReal.coe_ne_bot _
    | top => rw [log_top]; exact top_ne_bot
  have h2 : Ideal.log (-Ideal.log (unif b)) ≠ ⊤ := by
    generalize Ideal.log (unif b) = v at h1
    have h3 : -v ≠ ⊤ := by simpa [EReal.neg_eq_top_iff] using h1
    generalize -v = w at h3
    induction w using EReal.rec with
    | bot => rw [log_bot]; exact bot_ne_top
    | coe r =>
      rw [log_coe]
      split
      · exact bot_ne_top
      · exact EReal.coe_ne_top _
    | top => exact absurd rfl h3
  unfold gum
  simpa [EReal.neg_eq_bot_iff] using h2

/-- A sampled score above −∞, where the row has an entry above −∞. -/
theorem samp_ne_bot {R : ℕ} {x : ℕ → EReal} {c : ℕ} (h : x c ≠ ⊥) : samp R x c ≠ ⊥ := by
  unfold samp
  rw [Ne, EReal.add_eq_bot_iff, not_or]
  exact ⟨h, gum_ne_bot _⟩

end Cert.Sampler
end
-- ==== Proof.KernelWord.lean ====
module

public import proofs.«01_k».proof.Proof.Gen.KernelIdeal.Frame
public import proofs.«01_k».proof.Proof.Word

/-! The random words of the kernel's chunks: what each round's vectors hold at one lane, for the chunks of
1024 columns (by trip) and for the last 672 columns. -/

@[expose] public section
set_option maxRecDepth 16384
noncomputable section
namespace Cert.KernelIdeal.Gen
open Idealize.ShloMosaic Idealize.ShloMosaic.TcCoe Cert.Sampler

/-- The flat index of a lane in chunk `k` of block `i`. -/
def flatA (i : grid0.Coords) (k : Fin k0_t2_loop.trips) (p : S8x1024.Idx) : BitVec 32 :=
  k0_pay56 i p + trip_k0_t2.sl.v288 k

/-- The words `a` and `b` are the pair `p`. -/
structure Is (a b : BitVec 32) (p : BitVec 32 × BitVec 32) : Prop where
  fst : a = p.1
  snd : b = p.2

/-- A round of two words is the round of their pair. -/
theorem Is.rnd {m n a b a' b' : BitVec 32} {p : BitVec 32 × BitVec 32} (h : Is a b p) (e0 : a' = a + b)
    (e1 : b' = rot m n b ^^^ a') : Is a' b' (Sampler.rnd m n p) := by
  obtain ⟨rfl, rfl⟩ := h
  subst e0 e1
  exact ⟨rfl, rfl⟩

/-- A round of two words, the key's words and the group's number added after it. -/
theorem Is.last {m n x y z a b a' b' : BitVec 32} {p : BitVec 32 × BitVec 32} (h : Is a b p) (e0 : a' = a + b)
    (e1 : b' = (rot m n b ^^^ a') + y + z) : Is (a' + x) b' (inj x y z (Sampler.rnd m n p)) := by
  obtain ⟨rfl, rfl⟩ := h
  subst e0 e1
  exact ⟨rfl, rfl⟩

/-- The two words of a lane of a whole chunk after the twenty rounds. -/
theorem words_chunk (i : grid0.Coords) (k : Fin k0_t2_loop.trips) (p : S8x1024.Idx) :
    Is (trip_k0_t2.sl.v464 i k p) (trip_k0_t2.sl.v466 i k p + 5#32) (st20 (flatA i k p)) := by
  have s : Is 0#32 (trip_k0_t2.sl.v298 i k p) (st0 (flatA i k p)) := ⟨rfl, rfl⟩
  have s : Is (trip_k0_t2.sl.v299 i k p) (trip_k0_t2.sl.v305 i k p) (pr1 (flatA i k p)) := s.rnd rfl rfl
  have s : Is (trip_k0_t2.sl.v306 i k p) (trip_k0_t2.sl.v312 i k p) (pr2 (flatA i k p)) := s.rnd rfl rfl
  have s : Is (trip_k0_t2.sl.v313 i k p) (trip_k0_t2.sl.v319 i k p) (pr3 (flatA i k p)) := s.rnd rfl rfl
  have s : Is (trip_k0_t2.sl.v320 i k p + 42#32) (trip_k0_t2.sl.v332 i k p) (st4 (flatA i k p)) := s.last rfl rfl
  have s : Is (trip_k0_t2.sl.v333 i k p) (trip_k0_t2.sl.v339 i k p) (pr5 (flatA i k p)) := s.rnd rfl rfl
  have s : Is (trip_k0_t2.sl.v340 i k p) (trip_k0_t2.sl.v346 i k p) (pr6 (flatA i k p)) := s.rnd rfl rfl
  have s : Is (trip_k0_t2.sl.v347 i k p) (trip_k0_t2.sl.v353 i k p) (pr7 (flatA i k p)) := s.rnd rfl rfl
  have s : Is (trip_k0_t2.sl.v354 i k p + 466689008#32) (trip_k0_t2.sl.v366 i k p) (st8 (flatA i k p)) := s.last rfl rfl
  have s : Is (trip_k0_t2.sl.v367 i k p) (trip_k0_t2.sl.v373 i k p) (pr9 (flatA i k p)) := s.rnd rfl rfl
  have s : Is (trip_k0_t2.sl.v374 i k p) (trip_k0_t2.sl.v380 i k p) (pr10 (flatA i k p)) := s.rnd rfl rfl
  have s : Is (trip_k0_t2.sl.v381 i k p) (trip_k0_t2.sl.v387 i k p) (pr11 (flatA i k p)) := s.rnd rfl rfl
  have s : Is (trip_k0_t2.sl.v388 i k p + 0#32) (trip_k0_t2.sl.v400 i k p) (st12 (flatA i k p)) := s.last rfl rfl
  have s : Is (trip_k0_t2.sl.v401 i k p) (trip_k0_t2.sl.v407 i k p) (pr13 (flatA i k p)) := s.rnd rfl rfl
  have s : Is (trip_k0_t2.sl.v408 i k p) (trip_k0_t2.sl.v414 i k p) (pr14 (flatA i k p)) := s.rnd rfl rfl
  have s : Is (trip_k0_t2.sl.v415 i k p) (trip_k0_t2.sl.v421 i k p) (pr15 (flatA i k p)) := s.rnd rfl rfl
  have s : Is (trip_k0_t2.sl.v422 i k p + 42#32) (trip_k0_t2.sl.v434 i k p) (st16 (flatA i k p)) := s.last rfl rfl
  have s : Is (trip_k0_t2.sl.v435 i k p) (trip_k0_t2.sl.v441 i k p) (pr17 (flatA i k p)) := s.rnd rfl rfl
  have s : Is (trip_k0_t2.sl.v442 i k p) (trip_k0_t2.sl.v448 i k p) (pr18 (flatA i k p)) := s.rnd rfl rfl
  have s : Is (trip_k0_t2.sl.v449 i k p) (trip_k0_t2.sl.v455 i k p) (pr19 (flatA i k p)) := s.rnd rfl rfl
  exact s.last (a' := trip_k0_t2.sl.v456 i k p) rfl rfl

/-- The flat index of a lane of the last 672 columns. -/
def flatB (a : BitVec 32) (p : S8x672.Idx) : BitVec 32 :=
  (muli (addi (broadcast S8x672 (Scalar.muli a 8#32)) (iota .tc S8x672 32 [0] iota_S8x672_d0_w32))
    (broadcast S8x672 100000#32) p + iota .tc S8x672 32 [1] iota_S8x672_d1_w32 p) + 99328#32

/-- The two words of a lane of the last columns after round 3. -/
theorem words_3 (arg0 : BitVec 32) (p : S8x672.Idx) : Is (k0_pay79 arg0 p) (k0_pay80 arg0 p) (pr3 (flatB arg0 p)) := by
  have s : Is 0#32 (k0_pay74 arg0 p) (st0 (flatB arg0 p)) := ⟨rfl, rfl⟩
  have s : Is (k0_pay75 arg0 p) (k0_pay76 arg0 p) (pr1 (flatB arg0 p)) := s.rnd rfl rfl
  have s : Is (k0_pay77 arg0 p) (k0_pay78 arg0 p) (pr2 (flatB arg0 p)) := s.rnd rfl rfl
  exact s.rnd rfl rfl

/-- From round 3 to round 8. -/
theorem words_8 {v73 v79 : IVec S8x672 32} {p : S8x672.Idx} {w : BitVec 32} (s : Is (v73 p) (v79 p) (pr3 w)) :
    Is (k0_pay90 v73 v79 p) (k0_pay91 v73 v79 p + 2#32) (st8 w) := by
  have s : Is (k0_pay81 v73 v79 p + 42#32) (k0_pay82 v73 v79 p) (st4 w) := s.last rfl rfl
  have s : Is (k0_pay83 v73 v79 p) (k0_pay84 v73 v79 p) (pr5 w) := s.rnd rfl rfl
  have s : Is (k0_pay85 v73 v79 p) (k0_pay86 v73 v79 p) (pr6 w) := s.rnd rfl rfl
  have s : Is (k0_pay87 v73 v79 p) (k0_pay88 v73 v79 p) (pr7 w) := s.rnd rfl rfl
  exact s.last (a' := k0_pay89 v73 v79 p) rfl rfl

/-- From round 8 to round 13's second word and round 14's first. -/
theorem words_14 {v122 v124 : IVec S8x672 32} {p : S8x672.Idx} {w : BitVec 32} (s : Is (v122 p) (v124 p + 2#32) (st8 w)) :
    k0_pay102 v122 v124 p = (pr13 w).2 ∧ k0_pay103 v122 v124 p = (pr14 w).1 := by
  have s : Is (k0_pay93 v122 v124 p) (k0_pay94 v122 v124 p) (pr9 w) := s.rnd rfl rfl
  have s : Is (k0_pay95 v122 v124 p) (k0_pay96 v122 v124 p) (pr10 w) := s.rnd rfl rfl
  have s : Is (k0_pay97 v122 v124 p) (k0_pay98 v122 v124 p) (pr11 w) := s.rnd rfl rfl
  have s : Is (k0_pay99 v122 v124 p + 0#32) (k0_pay100 v122 v124 p) (st12 w) := s.last rfl rfl
  have s : Is (k0_pay101 v122 v124 p) (k0_pay102 v122 v124 p) (pr13 w) := s.rnd rfl rfl
  exact ⟨s.snd, (s.rnd (m := 29#32) (n := 3#32) (a' := k0_pay103 v122 v124 p) rfl rfl).fst⟩

/-- From there to round 19. -/
theorem words_19 {v167 v168 v169 : IVec S8x672 32} {p : S8x672.Idx} {w : BitVec 32} (h167 : v167 p = (pr13 w).2)
    (h168 : v168 p = (pr14 w).1) (h169 : v169 p = 29#32) :
    Is (k0_pay114 v167 v168 v169 p) (k0_pay115 v167 v168 v169 p) (pr19 w) := by
  have s : Is (v168 p) (k0_pay105 v167 v168 v169 p) (pr14 w) := ⟨h168, by
    rw [show k0_pay105 v167 v168 v169 p = ((IntOp.shli .vector (v167 p) (v169 p) ||| v167 p >>> 3#32) ^^^ v168 p) from rfl,
      h169, h167, h168]
    rfl⟩
  have s : Is (k0_pay106 v167 v168 v169 p) (k0_pay107 v167 v168 v169 p) (pr15 w) := s.rnd rfl rfl
  have s : Is (k0_pay108 v167 v168 v169 p + 42#32) (k0_pay109 v167 v168 v169 p) (st16 w) := s.last rfl rfl
  have s : Is (k0_pay110 v167 v168 v169 p) (k0_pay111 v167 v168 v169 p) (pr17 w) := s.rnd rfl rfl
  have s : Is (k0_pay112 v167 v168 v169 p) (k0_pay113 v167 v168 v169 p) (pr18 w) := s.rnd rfl rfl
  exact s.rnd rfl rfl

end Cert.KernelIdeal.Gen
end
-- ==== Proof.Spec.lean ====
module

public import Idealize.ShloMosaic.PureOps.Ideal
public import Idealize.ShloMosaic.Lib.Pointwise
public import Mathlib.Algebra.BigOperators.Intervals

/-! One row of 100000 columns: the first position of the largest entry, found lane by lane and chunk by
chunk, and the row's maximum and sum, likewise. -/

@[expose] public section
noncomputable section
namespace Cert.Sampler
open Idealize.ShloMosaic Finset

/-- The largest entry of a row. -/
def rowMax (x : ℕ → EReal) : EReal := (range 100000).sup x

/-- The sum of the exponentials of a row's entries less `m`. -/
def rowSum (m : EReal) (x : ℕ → EReal) : EReal := ∑ c ∈ range 100000, Ideal.exp (x c - m)

/-- The log-probability of column `a` of a row. -/
def rowLp (x : ℕ → EReal) (a : ℕ) : EReal :=
  (x a - rowMax x) - Ideal.log (rowSum (rowMax x) x)

/-- `a` is the first column at which `y` is largest. -/
def IsFirst (y : ℕ → EReal) (a : ℕ) : Prop :=
  a < 100000 ∧ (∀ c < 100000, y c ≤ y a) ∧ ∀ c < a, y c < y a

/-- There is one first column only. -/
theorem IsFirst.unique {y : ℕ → EReal} {a b : ℕ} (ha : IsFirst y a) (hb : IsFirst y b) : a = b := by
  rcases lt_trichotomy a b with h | h | h
  · exact absurd (hb.2.2 a h) (not_lt.2 (ha.2.1 b hb.1))
  · exact h
  · exact absurd (ha.2.2 b h) (not_lt.2 (hb.2.1 a ha.1))

/-- The first column at which `y` is largest. -/
def act (y : ℕ → EReal) : ℕ := by
  classical exact if h : ∃ a, IsFirst y a then h.choose else 0

/-- A first column is the first column. -/
theorem act_eq {y : ℕ → EReal} {a : ℕ} (h : IsFirst y a) : act y = a := by
  have he : ∃ a, IsFirst y a := ⟨a, h⟩
  unfold act
  rw [dif_pos he]
  exact he.choose_spec.unique h

/-- A row of 100000 entries by its column. -/
def col (x : Fin 100000 → EReal) (c : ℕ) : EReal := if h : c < 100000 then x ⟨c, h⟩ else ⊥

/-- What a lane `l` holds after `K` chunks: the largest sample seen, and where it is above −∞ the column
    and the entry at which it was first seen. -/
structure LaneInv (x y : ℕ → EReal) (l K : ℕ) (bv : EReal) (bi : BitVec 32) (bx : EReal) : Prop where
  le : ∀ k < K, y (1024 * k + l) ≤ bv
  hit : bv ≠ ⊥ → ∃ k < K, bi = BitVec.ofNat 32 (1024 * k + l) ∧ bx = x (1024 * k + l) ∧
    y (1024 * k + l) = bv ∧ ∀ k' < k, y (1024 * k' + l) < bv

/-- Before the first chunk. -/
theorem LaneInv.zero (x y : ℕ → EReal) (l : ℕ) (bi : BitVec 32) (bx : EReal) :
    LaneInv x y l 0 ⊥ bi bx := ⟨fun _ h => absurd h (Nat.not_lt_zero _), fun h => absurd rfl h⟩

/-- One more chunk. -/
theorem LaneInv.step {x y : ℕ → EReal} {l K : ℕ} {bv : EReal} {bi : BitVec 32} {bx : EReal}
    (h : LaneInv x y l K bv bi bx) :
    LaneInv x y l (K + 1) (if bv < y (1024 * K + l) then y (1024 * K + l) else bv)
      (if bv < y (1024 * K + l) then BitVec.ofNat 32 (1024 * K + l) else bi)
      (if bv < y (1024 * K + l) then x (1024 * K + l) else bx) := by
  by_cases hu : bv < y (1024 * K + l)
  · simp only [if_pos hu]
    refine ⟨fun k hk => ?_, fun _ => ⟨K, Nat.lt_succ_self K, rfl, rfl, rfl, fun k' hk' =>
      (h.le k' hk').trans_lt hu⟩⟩
    rcases Nat.lt_succ_iff_lt_or_eq.1 hk with hk | rfl
    · exact (h.le k hk).trans hu.le
    · exact le_rfl
  · simp only [if_neg hu]
    refine ⟨fun k hk => ?_, fun hb => ?_⟩
    · rcases Nat.lt_succ_iff_lt_or_eq.1 hk with hk | rfl
      · exact h.le k hk
      · exact not_lt.1 hu
    · obtain ⟨k, hk, r⟩ := h.hit hb
      exact ⟨k, Nat.lt_succ_of_lt hk, r⟩

/-- `i` is the least, as a signed word, of the words `f l`. -/
def IsMin {n : ℕ} (i : BitVec 32) (f : Fin n → BitVec 32) : Prop :=
  (∃ l, i = f l) ∧ ∀ l, i.toInt ≤ (f l).toInt

/-- A column's word read signed. -/
theorem toInt_col {a : ℕ} (h : a ≤ 100000) : (BitVec.ofNat 32 a).toInt = a := by
  rw [BitVec.toInt_eq_toNat_cond, BitVec.toNat_ofNat]
  rw [Nat.mod_eq_of_lt (by omega), if_pos (by omega)]

/-- Columns with the same word are the same. -/
theorem col_inj {a b : ℕ} (ha : a ≤ 100000) (hb : b ≤ 100000)
    (h : BitVec.ofNat 32 a = BitVec.ofNat 32 b) : a = b := by
  have := congrArg BitVec.toInt h
  rw [toInt_col ha, toInt_col hb] at this
  exact_mod_cast this

/-- The word of −∞. -/
theorem ninf : Ideal.ofBits .f32 0xFF800000#32 = ⊥ := by
  simp [Ideal.ofBits, Ideal.ieee]

/-- A running maximum from −∞ is the largest of the values. -/
theorem fold_max_sup {ι : Type} (s : Finset ι) (f : ι → EReal) : s.fold max ⊥ f = s.sup f := rfl

/-- A running minimum of signed words from the largest word is the least of them. -/
theorem fold_min {n : ℕ} [NeZero n] (f : Fin n → BitVec 32) :
    IsMin (univ.fold IntOp.minsi (2147483647#32) f) f := by
  have hslt : ∀ x y : BitVec 32, x.slt y = true ↔ x.toInt < y.toInt := fun x y => by
    simp [BitVec.slt]
  have key : ∀ s : Finset (Fin n), (∀ l ∈ s, (s.fold IntOp.minsi (2147483647#32) f).toInt ≤ (f l).toInt) ∧
      (s.fold IntOp.minsi (2147483647#32) f = 2147483647#32 ∨ ∃ l ∈ s, s.fold IntOp.minsi (2147483647#32) f = f l) := by
    intro s
    induction s using Finset.induction_on with
    | empty => exact ⟨fun l hl => absurd hl (notMem_empty l), .inl rfl⟩
    | insert a s ha ih =>
      rw [fold_insert ha]
      unfold IntOp.minsi
      by_cases hlt : (f a).slt (s.fold IntOp.minsi (2147483647#32) f) = true
      · unfold IntOp.minsi at hlt ih
        rw [if_pos hlt]
        have hlt := (hslt _ _).1 hlt
        refine ⟨fun l hl => ?_, .inr ⟨a, mem_insert_self a s, rfl⟩⟩
        rcases mem_insert.1 hl with rfl | hl
        · exact le_rfl
        · exact hlt.le.trans (ih.1 l hl)
      · unfold IntOp.minsi at hlt ih
        rw [if_neg hlt]
        have hlt := not_lt.1 (mt (hslt _ _).2 hlt)
        refine ⟨fun l hl => ?_, ih.2.imp_right fun ⟨l, hl, e⟩ => ⟨l, mem_insert_of_mem hl, e⟩⟩
        rcases mem_insert.1 hl with rfl | hl
        · exact hlt
        · exact ih.1 l hl
  obtain ⟨h1, h2⟩ := key univ
  refine ⟨?_, fun l => h1 l (mem_univ l)⟩
  rcases h2 with h2 | ⟨l, -, h2⟩
  · refine ⟨0, ?_⟩
    have h3 := h1 0 (mem_univ _)
    rw [h2] at h3 ⊢
    apply BitVec.eq_of_toInt_eq
    have h4 : (f 0).toInt < 2 ^ 31 := by simpa using BitVec.toInt_lt (x := f 0)
    have h5 : (2147483647#32 : BitVec 32).toInt = 2147483647 := rfl
    rw [h5] at h3 ⊢
    omega
  · exact ⟨l, h2⟩

/-- The lanes that hold the largest value, the least column among them, and the entry there. -/
theorem pick {n : ℕ} [NeZero n] (bv bx : Fin n → EReal) (bi : Fin n → BitVec 32) (v xo : EReal) (i : BitVec 32)
    (hv : v = univ.sup bv)
    (hi : IsMin i fun l => if bv l = v then bi l else 100000#32)
    (hx : xo = univ.sup fun l => if bv l = v ∧ bi l = i then bx l else ⊥)
    (x : ℕ → EReal) (hcol : ∀ l, bv l = v → ∃ a < 100000, bi l = BitVec.ofNat 32 a ∧ bx l = x a) :
    ∃ l a, a < 100000 ∧ bv l = v ∧ bi l = BitVec.ofNat 32 a ∧ i = BitVec.ofNat 32 a ∧ xo = x a ∧
      ∀ l' a', bv l' = v → bi l' = BitVec.ofNat 32 a' → a' < 100000 → a ≤ a' := by
  obtain ⟨l0, -, h0⟩ := exists_mem_eq_sup univ ⟨(0 : Fin n), mem_univ _⟩ bv
  rw [← hv] at h0
  obtain ⟨a0, ha0, hb0, -⟩ := hcol l0 h0.symm
  obtain ⟨⟨l, hl⟩, hmin⟩ := hi
  have hlv : bv l = v := by
    by_contra hne
    have h1 := hmin l0
    simp only [if_neg hne] at hl
    simp only [] at h1
    rw [if_pos h0.symm, hl, hb0, toInt_col ha0.le,
      show (100000#32 : BitVec 32).toInt = 100000 from rfl] at h1
    omega
  obtain ⟨a, ha, hba, hxa⟩ := hcol l hlv
  simp only [if_pos hlv] at hl
  have hia : i = BitVec.ofNat 32 a := hl.trans hba
  refine ⟨l, a, ha, hlv, hba, hia, ?_, fun l' a' hl' hb' ha' => ?_⟩
  · rw [hx]
    apply le_antisymm
    · refine Finset.sup_le fun l' _ => ?_
      by_cases hc : bv l' = v ∧ bi l' = i
      · rw [if_pos hc]
        obtain ⟨a', ha', hb', hx'⟩ := hcol l' hc.1
        have : a' = a := col_inj ha'.le ha.le (hb'.symm.trans (hc.2.trans hia))
        rw [hx', this]
      · rw [if_neg hc]; exact bot_le
    · rw [← hxa]
      have := Finset.le_sup (f := fun l => if bv l = v ∧ bi l = i then bx l else ⊥) (mem_univ l)
      simpa only [if_pos (⟨hlv, hl.symm⟩ : bv l = v ∧ bi l = i)] using this
  · have h1 := hmin l'
    simp only [if_pos hl'] at h1
    rw [hb', hia, toInt_col ha.le, toInt_col ha'.le] at h1
    omega

/-- The first 99328 columns, from their lanes. -/
theorem lanes (x y : ℕ → EReal) (bv bx : Fin 1024 → EReal) (bi : Fin 1024 → BitVec 32) (v xo : EReal) (i : BitVec 32)
    (h : ∀ l : Fin 1024, LaneInv x y l 97 (bv l) (bi l) (bx l))
    (hv : v = univ.sup bv)
    (hi : IsMin i fun l => if bv l = v then bi l else 100000#32)
    (hx : xo = univ.sup fun l => if bv l = v ∧ bi l = i then bx l else ⊥) :
    (∀ c < 99328, y c ≤ v) ∧
      (v ≠ ⊥ → ∃ a < 99328, i = BitVec.ofNat 32 a ∧ xo = x a ∧ y a = v ∧ ∀ c < a, y c < v) := by
  have hle : ∀ c < 99328, ∃ (l : Fin 1024) (k : ℕ), k < 97 ∧ c = 1024 * k + l := fun c hc =>
    ⟨⟨c % 1024, Nat.mod_lt _ (by norm_num)⟩, c / 1024, by omega, by simp only []; omega⟩
  have hbv : ∀ l, bv l ≤ v := fun l => hv ▸ Finset.le_sup (mem_univ l)
  refine ⟨fun c hc => ?_, fun hb => ?_⟩
  · obtain ⟨l, k, hk, rfl⟩ := hle c hc
    exact ((h l).le k hk).trans (hbv l)
  · obtain ⟨l, a, ha, hl, hba, hia, hxa, hmin⟩ := pick bv bx bi v xo i hv hi hx x (fun l hl => by
      obtain ⟨k, hk, h1, h2, -⟩ := (h l).hit (by rw [hl]; exact hb)
      exact ⟨1024 * k + l, by omega, h1, h2⟩)
    obtain ⟨k, hk, h1, h2, h3, h4⟩ := (h l).hit (by rw [hl]; exact hb)
    have ea : a = 1024 * k + l := col_inj ha.le (by omega) (hba.symm.trans h1)
    refine ⟨a, by omega, hia, hxa, by rw [ea, h3, hl], fun c hc => ?_⟩
    obtain ⟨l', k', hk', rfl⟩ := hle c (by omega)
    refine lt_of_le_of_ne (((h l').le k' hk').trans (hbv l')) fun he => ?_
    have hl' : bv l' = v := le_antisymm (hbv l') (he ▸ (h l').le k' hk')
    obtain ⟨k2, hk2, g1, g2, g3, g4⟩ := (h l').hit (by rw [hl']; exact hb)
    have : ¬ k' < k2 := fun hlt => absurd (g4 k' hlt) (by rw [he, hl']; exact lt_irrefl _)
    have := hmin l' (1024 * k2 + l') hl' g1 (by omega)
    omega

/-- The last 672 columns. -/
theorem tail (x y : ℕ → EReal) (v xo : EReal) (i : BitVec 32)
    (hv : v = univ.sup fun l : Fin 672 => y (99328 + l))
    (hi : IsMin i fun l : Fin 672 => if y (99328 + l) = v then BitVec.ofNat 32 (99328 + l) else 100000#32)
    (hx : xo = univ.sup fun l : Fin 672 =>
      if y (99328 + l) = v ∧ BitVec.ofNat 32 (99328 + l) = i then x (99328 + l) else ⊥) :
    (∀ c, 99328 ≤ c → c < 100000 → y c ≤ v) ∧
      ∃ a, 99328 ≤ a ∧ a < 100000 ∧ i = BitVec.ofNat 32 a ∧ xo = x a ∧ y a = v ∧
        ∀ c, 99328 ≤ c → c < a → y c < v := by
  have hle : ∀ c, 99328 ≤ c → c < 100000 → y c ≤ v := fun c h1 h2 => by
    have := Finset.le_sup (f := fun l : Fin 672 => y (99328 + l)) (mem_univ ⟨c - 99328, by omega⟩)
    simp only [show 99328 + (c - 99328) = c by omega] at this
    rw [hv]; exact this
  refine ⟨hle, ?_⟩
  obtain ⟨l, a, ha, hl, hba, hia, hxa, hmin⟩ := pick (fun l : Fin 672 => y (99328 + l))
    (fun l => x (99328 + l)) (fun l => BitVec.ofNat 32 (99328 + l)) v xo i hv hi hx x
    (fun l _ => ⟨99328 + l, by omega, rfl, rfl⟩)
  have ea : 99328 + (l : ℕ) = a := col_inj (by omega) ha.le hba
  refine ⟨a, by omega, ha, hia, hxa, by rw [← ea]; exact hl, fun c h1 h2 => ?_⟩
  refine lt_of_le_of_ne (hle c h1 (by omega)) fun he => ?_
  have := hmin ⟨c - 99328, by omega⟩ c (by simp only [show 99328 + (c - 99328) = c by omega]; exact he)
    (by simp only [show 99328 + (c - 99328) = c by omega]) (by omega)
  omega

/-- The two parts put together: the first column of the row's largest sample. -/
theorem combine (x y : ℕ → EReal) (v1 v2 x1 x2 : EReal) (i1 i2 : BitVec 32)
    (h1 : (∀ c < 99328, y c ≤ v1) ∧
      (v1 ≠ ⊥ → ∃ a < 99328, i1 = BitVec.ofNat 32 a ∧ x1 = x a ∧ y a = v1 ∧ ∀ c < a, y c < v1))
    (h2 : (∀ c, 99328 ≤ c → c < 100000 → y c ≤ v2) ∧
      ∃ a, 99328 ≤ a ∧ a < 100000 ∧ i2 = BitVec.ofNat 32 a ∧ x2 = x a ∧ y a = v2 ∧
        ∀ c, 99328 ≤ c → c < a → y c < v2)
    (hy : ∃ c < 100000, y c ≠ ⊥) :
    ∃ a, IsFirst y a ∧
      (if v2 < v1 ∨ v1 = v2 ∧ i1.toInt < i2.toInt then i1 else i2) = BitVec.ofNat 32 a ∧
      (if v2 < v1 ∨ v1 = v2 ∧ i1.toInt < i2.toInt then x1 else x2) = x a := by
  obtain ⟨hle1, hit1⟩ := h1
  obtain ⟨hle2, a2, ha2, ha2', e2, ex2, ey2, hl2⟩ := h2
  have hall : ∀ c < 100000, y c ≤ max v1 v2 := fun c hc => by
    rcases lt_or_ge c 99328 with h | h
    · exact (hle1 c h).trans (le_max_left _ _)
    · exact (hle2 c h hc).trans (le_max_right _ _)
  rcases lt_trichotomy v1 v2 with h | h | h
  · have hn : ¬ (v2 < v1 ∨ v1 = v2 ∧ i1.toInt < i2.toInt) := by
      rintro (h' | ⟨h', -⟩)
      · exact absurd h (not_lt.2 h'.le)
      · exact absurd h' h.ne
    rw [if_neg hn, if_neg hn]
    refine ⟨a2, ⟨ha2', fun c hc => ?_, fun c hc => ?_⟩, e2, ex2⟩
    · rw [ey2, ← max_eq_right h.le]; exact hall c hc
    · rcases lt_or_ge c 99328 with h' | h'
      · rw [ey2]; exact (hle1 c h').trans_lt h
      · rw [ey2]; exact hl2 c h' hc
  · have hb : v1 ≠ ⊥ := fun hb => by
      obtain ⟨c, hc, hcy⟩ := hy
      have := hall c hc
      rw [← h, max_self, hb] at this
      exact hcy (le_bot_iff.1 this)
    obtain ⟨a, ha, e1, ex1, ey1, hl1⟩ := hit1 hb
    have hp : v2 < v1 ∨ v1 = v2 ∧ i1.toInt < i2.toInt := by
      refine .inr ⟨h, ?_⟩
      rw [e1, e2, toInt_col (by omega), toInt_col (by omega)]; omega
    rw [if_pos hp, if_pos hp]
    refine ⟨a, ⟨by omega, fun c hc => ?_, fun c hc => ?_⟩, e1, ex1⟩
    · rw [ey1]; have := hall c hc; rwa [← h, max_self] at this
    · rw [ey1]; exact hl1 c hc
  · have hp : v2 < v1 ∨ v1 = v2 ∧ i1.toInt < i2.toInt := .inl h
    obtain ⟨a, ha, e1, ex1, ey1, hl1⟩ := hit1 (bot_le.trans_lt h).ne'
    rw [if_pos hp, if_pos hp]
    refine ⟨a, ⟨by omega, fun c hc => ?_, fun c hc => ?_⟩, e1, ex1⟩
    · rw [ey1, ← max_eq_left h.le]; exact hall c hc
    · rw [ey1]; exact hl1 c hc

/-- The row's maximum, from the lanes' and the tail's. -/
theorem rowMax_eq (x : ℕ → EReal) :
    max (univ.sup fun l : Fin 1024 => (range 97).sup fun k => x (1024 * k + l))
      (univ.sup fun l : Fin 672 => x (99328 + l)) = rowMax x := by
  apply le_antisymm
  · refine max_le (Finset.sup_le fun l _ => Finset.sup_le fun k hk => ?_) (Finset.sup_le fun l _ => ?_)
    · have := mem_range.1 hk
      exact Finset.le_sup (f := x) (mem_range.2 (by omega))
    · exact Finset.le_sup (f := x) (mem_range.2 (by omega))
  · refine Finset.sup_le fun c hc => ?_
    have hc := mem_range.1 hc
    rcases lt_or_ge c 99328 with h | h
    · refine le_max_of_le_left ?_
      have h1 := Finset.le_sup (f := fun k => x (1024 * k + c % 1024)) (mem_range.2 (show c / 1024 < 97 by omega))
      have h2 := Finset.le_sup (f := fun l : Fin 1024 => (range 97).sup fun k => x (1024 * k + l))
        (mem_univ ⟨c % 1024, Nat.mod_lt _ (by norm_num)⟩)
      refine le_trans ?_ (h1.trans h2)
      simp only [show 1024 * (c / 1024) + c % 1024 = c by omega, le_refl]
    · refine le_max_of_le_right ?_
      have h1 := Finset.le_sup (f := fun l : Fin 672 => x (99328 + l)) (mem_univ ⟨c - 99328, by omega⟩)
      refine le_trans ?_ h1
      simp only [show 99328 + (c - 99328) = c by omega, le_refl]

/-- A sum over chunks, then lanes. -/
theorem sum_chunks (f : ℕ → EReal) (K : ℕ) :
    ∑ c ∈ range (1024 * K), f c = ∑ l : Fin 1024, ∑ k ∈ range K, f (1024 * k + l) := by
  rw [sum_comm]
  induction K with
  | zero => simp
  | succ K ih =>
    rw [Nat.mul_succ, sum_range_add, ih, sum_range_succ _ K, Finset.sum_range (n := 1024)]

/-- The row's sum, from the lanes' and the tail's. -/
theorem rowSum_eq (m : EReal) (x : ℕ → EReal) :
    (∑ l : Fin 1024, ∑ k ∈ range 97, Ideal.exp (x (1024 * k + l) - m)) +
      ∑ l : Fin 672, Ideal.exp (x (99328 + l) - m) = rowSum m x := by
  rw [rowSum, show 100000 = 1024 * 97 + 672 from rfl, sum_range_add, sum_chunks (fun c => Ideal.exp (x c - m)),
    Finset.sum_range (n := 672)]

end Cert.Sampler
end
-- ==== Proof.KernelRow.lean ====
module

public import proofs.«01_k».proof.Proof.KernelWord
public import proofs.«01_k».proof.Proof.Spec
public import Idealize.ShloMosaic.Lib.Pipeline.ValueKit
public import Idealize.ShloMosaic.Lib.Pointwise

/-! The vectors of the first kernel region at one lane of one row: the words, the scores, the two loops'
carried values, and the reductions over the lanes. -/

@[expose] public section
set_option maxRecDepth 16384
noncomputable section
namespace Cert.KernelIdeal.Gen
open Idealize.ShloMosaic Idealize.ShloMosaic.TcCoe Cert.Sampler

/-- A row of a block, as a function of the column. -/
def row (X : FVec Ideal S8x100000 .f32) (r : Fin 8) (c : ℕ) : EReal :=
  if h : c < 100000 then X (ix2 r ⟨c, h⟩) else ⊥

/-- The first loop has 97 steps. -/
theorem trips1 (k : Fin k0_t1_loop.trips) : k.val < 97 := k.isLt
/-- The second loop has 97 steps. -/
theorem trips2 (k : Fin k0_t2_loop.trips) : k.val < 97 := k.isLt

/-- Where the first loop loads at a step. -/
theorem off1_eq : ∀ k : Fin k0_t1_loop.trips, k0_off1 k = ![0, 1024 * k.val] := by decide +kernel
/-- Where the second loop loads at a step. -/
theorem off2_eq : ∀ k : Fin k0_t2_loop.trips, k0_off2 k = ![0, 1024 * k.val] := by decide +kernel

/-- A chunk read by the first loop. -/
theorem read1 (arg1 : Memref sig .tc .vmem S8x100000 .f32) (harg1 : arg1.IsWhole) (X : FVec Ideal S8x100000 .f32)
    (k : Fin k0_t1_loop.trips) (r : Fin 8) (l : Fin 1024) :
    View.readAt (Elt Ideal) arg1.view (Rect.unit (s := S8x100000) (k0_off1 k) S8x1024.size (k0_off1_inb k)).toLoadRect
      (harg1.unread X) (ix2 r l) = row X r (1024 * k.val + l) := by
  rw [View.readAt_eq_ld, Memref.IsWhole.read_unread]
  have := trips1 k
  have h := off1_eq k
  rw [row, dif_pos (by omega)]
  generalize k0_off1_inb k = hb
  revert hb
  rw [h]
  intro hb
  pointwise

/-- A chunk read by the second loop. -/
theorem read2 (arg1 : Memref sig .tc .vmem S8x100000 .f32) (harg1 : arg1.IsWhole) (X : FVec Ideal S8x100000 .f32)
    (k : Fin k0_t2_loop.trips) (r : Fin 8) (l : Fin 1024) :
    View.readAt (Elt Ideal) arg1.view (Rect.unit (s := S8x100000) (k0_off2 k) S8x1024.size (k0_off2_inb k)).toLoadRect
      (harg1.unread X) (ix2 r l) = row X r (1024 * k.val + l) := by
  rw [View.readAt_eq_ld, Memref.IsWhole.read_unread]
  have := trips2 k
  have h := off2_eq k
  rw [row, dif_pos (by omega)]
  generalize k0_off2_inb k = hb
  revert hb
  rw [h]
  intro hb
  pointwise

/-- The last columns, read after the loops. -/
theorem read3 (arg1 : Memref sig .tc .vmem S8x100000 .f32) (harg1 : arg1.IsWhole) (X : FVec Ideal S8x100000 .f32)
    (r : Fin 8) (l : Fin 672) :
    View.readAt (Elt Ideal) arg1.view (Rect.unit (s := S8x100000) ![0, 99328] S8x672.size inb_S8x100000_S8x672_0_99328).toLoadRect
      (harg1.unread X) (ix2 r l) = row X r (99328 + l) := by
  rw [View.readAt_eq_ld, Memref.IsWhole.read_unread]
  rw [row, dif_pos (by omega)]
  pointwise

/-- The flat index of a lane of a chunk: row times 100000 plus column. -/
theorem flatA_eq (i : grid0.Coords) (k : Fin k0_t2_loop.trips) (r : Fin 8) (l : Fin 1024) :
    flatA i k (ix2 r l) = BitVec.ofNat 32 ((8 * (i 0).val + r) * 100000 + (1024 * k.val + l)) := by
  have hk := trips2 k
  have hi : (i 0).val < 40 := (i 0).isLt
  have hv : trip_k0_t2.sl.v288 k = BitVec.ofNat 32 (1024 * k.val) := by
    show (0#32 + BitVec.ofNat 32 k.val * 1#32) * 1024#32 = _
    apply BitVec.eq_of_toNat_eq
    simp only [BitVec.toNat_mul, BitVec.toNat_add, BitVec.toNat_ofNat]
    omega
  rw [flatA, hv]
  pointwise [k0_pay56]
  show (BitVec.ofNat 32 (i 0).val * 8#32 + BitVec.ofNat 32 r.val) * 100000#32 + BitVec.ofNat 32 l.val + _ = _
  apply BitVec.eq_of_toNat_eq
  simp only [BitVec.toNat_mul, BitVec.toNat_add, BitVec.toNat_ofNat]
  omega

/-- The flat index of a lane of the last columns. -/
theorem flatB_eq (i : grid0.Coords) (r : Fin 8) (l : Fin 672) :
    flatB (BitVec.ofNat 32 (i 0).val) (ix2 r l) = BitVec.ofNat 32 ((8 * (i 0).val + r) * 100000 + (99328 + l)) := by
  have hi : (i 0).val < 40 := (i 0).isLt
  pointwise [flatB]
  show (BitVec.ofNat 32 (i 0).val * 8#32 + BitVec.ofNat 32 r.val) * 100000#32 + BitVec.ofNat 32 l.val + _ = _
  apply BitVec.eq_of_toNat_eq
  simp only [BitVec.toNat_mul, BitVec.toNat_add, BitVec.toNat_ofNat]
  omega

/-- A shift left by six within the word. -/
theorem shl6 (x : BitVec 32) : IntOp.shli .vector x 6#32 = x <<< 6#32 := rfl
/-- A shift right by 26 within the word. -/
theorem shr26 (x : BitVec 32) : IntOp.shrui .vector x 26#32 = x >>> 26#32 := rfl
/-- A shift right by nine within the word. -/
theorem shr9 (x : BitVec 32) : IntOp.shrui .vector x 9#32 = x >>> 9#32 := rfl

/-- The score of a lane, of the words it is made from. -/
theorem pay61_eq (v291 : FVec Ideal S8x1024 .f32) (v464 v466 : IVec S8x1024 32) (r : Fin 8) (l : Fin 1024) :
   k0_pay61 v291 v464 v466 5#32 (ix2 r l) = v291 (ix2 r l) + gum (v464 (ix2 r l) ^^^ (v466 (ix2 r l) + 5#32)) := by
  pointwise [k0_pay61, gum, unif]
  simp only [zero_sub, shr9, IntOp.xori, IntOp.ori, IntOp.addi]

/-- The random words of the last columns, from the words after round 19. -/
def bitsV (v209 v215 : IVec S8x672 32) : IVec S8x672 32 :=
  have v216 : IVec S8x672 32 := addi v209 v215
  have v217 : IVec S8x672 32 := broadcast S8x672 6#32
  have v218 : IVec S8x672 32 := shli v215 v217
  have v219 : IVec S8x672 32 := broadcast S8x672 26#32
  have v220 : IVec S8x672 32 := shrui v215 v219
  have v221 : IVec S8x672 32 := ori v218 v220
  have v222 : IVec S8x672 32 := xori v221 v216
  have v223 : IVec S8x672 32 := broadcast S8x672 466689008#32
  have v224 : IVec S8x672 32 := addi v216 v223
  have v225 : IVec S8x672 32 := broadcast S8x672 0#32
  have v226 : IVec S8x672 32 := addi v222 v225
  have v227 : IVec S8x672 32 := broadcast S8x672 5#32
  have v228 : IVec S8x672 32 := addi v226 v227
  have v229 : IVec S8x672 32 := xori v224 v228
  v229

/-- The scores of the last columns, from the random words. -/
def scoreV (v43 : FVec Ideal S8x672 .f32) (v229 : IVec S8x672 32) : FVec Ideal S8x672 .f32 :=
  have v230 : IVec S8x672 32 := broadcast S8x672 9#32
  have v231 : IVec S8x672 32 := shrui v229 v230
  have v232 : IVec S8x672 32 := broadcast S8x672 1065353216#32
  have v233 : IVec S8x672 32 := ori v231 v232
  have v234 : FVec Ideal S8x672 .f32 := bitcastToFloat .f32 v233
  have cst_64 : Ideal .f32 := Scalar.ofBits .f32 0x3F800000#32
  have v235 : FVec Ideal S8x672 .f32 := broadcast S8x672 cst_64
  have v236 : FVec Ideal S8x672 .f32 := subf v234 v235
  have cst_65 : Ideal .f32 := Scalar.ofBits .f32 0x3F800000#32
  have v237 : FVec Ideal S8x672 .f32 := broadcast S8x672 cst_65
  have v238 : FVec Ideal S8x672 .f32 := mulf v236 v237
  have cst_66 : Ideal .f32 := Scalar.ofBits .f32 0x00800000#32
  have v239 : FVec Ideal S8x672 .f32 := broadcast S8x672 cst_66
  have v240 : FVec Ideal S8x672 .f32 := addf v238 v239
  have cst_67 : Ideal .f32 := Scalar.ofBits .f32 0x00800000#32
  have v241 : FVec Ideal S8x672 .f32 := broadcast S8x672 cst_67
  have v242 : FVec Ideal S8x672 .f32 := maximumf v241 v240
  have v243 : FVec Ideal S8x672 .f32 := log v242
  have cst_68 : Ideal .f32 := Scalar.ofBits .f32 0x00000000#32
  have v244 : FVec Ideal S8x672 .f32 := broadcast S8x672 cst_68
  have v245 : FVec Ideal S8x672 .f32 := subf v244 v243
  have v246 : FVec Ideal S8x672 .f32 := log v245
  have cst_69 : Ideal .f32 := Scalar.ofBits .f32 0x00000000#32
  have v247 : FVec Ideal S8x672 .f32 := broadcast S8x672 cst_69
  have v248 : FVec Ideal S8x672 .f32 := subf v247 v246
  have v249 : FVec Ideal S8x672 .f32 := addf v43 v248
  v249

/-- The last columns' random word, of the pair after nineteen rounds. -/
theorem bitsV_eq (v209 v215 : IVec S8x672 32) (p : S8x672.Idx) :
    bitsV v209 v215 p = (v209 p + v215 p + 466689008#32) ^^^
      ((((v215 p <<< 6#32 ||| v215 p >>> 26#32) ^^^ (v209 p + v215 p)) + 0#32) + 5#32) := rfl

/-- The random word, of the pair after nineteen rounds. -/
theorem word_eq (w : BitVec 32) :
    word w = ((pr19 w).1 + (pr19 w).2 + 466689008#32) ^^^
      (((((pr19 w).2 <<< 6#32 ||| (pr19 w).2 >>> 26#32) ^^^ ((pr19 w).1 + (pr19 w).2)) + 0#32) + 5#32) := by
  simp only [word, st20, pr20, inj, rnd, rot]

/-- The score of one of the last columns, of its random word. -/
theorem scoreV_eq (v43 : FVec Ideal S8x672 .f32) (v229 : IVec S8x672 32) (r : Fin 8) (l : Fin 672) :
    scoreV v43 v229 (ix2 r l) = v43 (ix2 r l) + gum (v229 (ix2 r l)) := by
  pointwise [scoreV, gum, unif]
  simp only [zero_sub, shr9, IntOp.ori]

/-- The last columns' scores, made in two parts. -/
theorem pay116_split (v43 : FVec Ideal S8x672 .f32) (v209 v215 : IVec S8x672 32) :
    k0_pay116 v43 v209 v215 = scoreV v43 (bitsV v209 v215) := by
  unfold k0_pay116 scoreV bitsV
  exact Eq.refl _

/-- The score of one of the last columns, of the words after round 19. -/
theorem pay116_eq (v43 : FVec Ideal S8x672 .f32) (v209 v215 : IVec S8x672 32) (r : Fin 8) (l : Fin 672) (w : BitVec 32)
    (h0 : v209 (ix2 r l) = (pr19 w).1) (h1 : v215 (ix2 r l) = (pr19 w).2) :
   k0_pay116 v43 v209 v215 (ix2 r l) = v43 (ix2 r l) + gum (word w) := by
  rw [pay116_split, scoreV_eq, bitsV_eq, h0, h1, word_eq]

section
variable (c : Dev nD) (i : grid0.Coords) (arg1 : Memref sig .tc .vmem S8x100000 .f32) (harg1 : arg1.IsWhole)
  (arg2 : Memref sig .tc .vmem S1x8x1 .f32) (harg2 : arg2.IsWhole) (arg3 : Memref sig .tc .vmem S1x8x1 .i32)
  (harg3 : arg3.IsWhole) (X : FVec Ideal S8x100000 .f32)

/-- The first loop's carried value before trip `K`: each lane's largest entry so far. -/
theorem st1_eq (K : ℕ) (hK : K ≤ 97) (r : Fin 8) (l : Fin 1024) :
    st_k0_t1 (F := Ideal) Variants.none c none i arg1 harg1 arg2 harg2 arg3 harg3 (harg1.unread X) k0_pay53 K (ix2 r l)
      = (Finset.range K).sup fun k => row X r (1024 * k + l) := by
  induction K with
  | zero =>
    rw [st_k0_t1_zero]
    pointwise [k0_pay53]
    exact ninf
  | succ K ih =>
    have ih := ih (by omega)
    rw [st_k0_t1_succ (k := ⟨K, hK⟩)]
    unfold tripR_k0_t1 trip_k0_t1
    dsimp only
    pointwise [k0_pay54]
    have := read1 arg1 harg1 X ⟨K, hK⟩ r l
    rw [this, ih, Finset.range_add_one, Finset.sup_insert, sup_comm]

/-- The row maximum. -/
theorem max_eq (v2 : FVec Ideal S8x1024 .f32) (v5 : FVec Ideal S8x672 .f32) (r : Fin 8)
    (h2 : ∀ l : Fin 1024, v2 (ix2 r l) = (Finset.range 97).sup fun k => row X r (1024 * k + l))
    (h5 : ∀ l : Fin 672, v5 (ix2 r l) = row X r (99328 + l)) :
    k0_pay55 v2 v5 (ix2 r 0) = rowMax (row X r) := by
  pointwise [k0_pay55]
  rw [ninf, fold_max_sup, fold_max_sup, ← rowMax_eq]
  simp only [h2, h5]

/-- The second loop's carried values before trip `K`, at one lane. -/
theorem st2_eq (v2 : FVec Ideal S8x1024 .f32) (v5 : FVec Ideal S8x672 .f32) (r : Fin 8) (m : EReal)
    (hm : k0_pay55 v2 v5 (ix2 r 0) = m) (K : ℕ) (hK : K ≤ 97) (l : Fin 1024) :
    (st_k0_t2 (F := Ideal) Variants.none c none i arg1 harg1 arg2 harg2 arg3 harg3 v2 v5 (harg1.unread X)
        (k0_pay57, k0_pay58, k0_pay59, k0_pay60) K).1 (ix2 r l)
      = ∑ k ∈ Finset.range K, Ideal.exp (row X r (1024 * k + l) - m) ∧
    LaneInv (row X r) (samp (8 * (i 0).val + r) (row X r)) l K
      ((st_k0_t2 (F := Ideal) Variants.none c none i arg1 harg1 arg2 harg2 arg3 harg3 v2 v5 (harg1.unread X)
        (k0_pay57, k0_pay58, k0_pay59, k0_pay60) K).2.1 (ix2 r l))
      ((st_k0_t2 (F := Ideal) Variants.none c none i arg1 harg1 arg2 harg2 arg3 harg3 v2 v5 (harg1.unread X)
        (k0_pay57, k0_pay58, k0_pay59, k0_pay60) K).2.2.1 (ix2 r l))
      ((st_k0_t2 (F := Ideal) Variants.none c none i arg1 harg1 arg2 harg2 arg3 harg3 v2 v5 (harg1.unread X)
        (k0_pay57, k0_pay58, k0_pay59, k0_pay60) K).2.2.2 (ix2 r l)) := by
  induction K with
  | zero =>
    rw [st_k0_t2_zero]
    have h : (k0_pay58 (F := Ideal)) (ix2 r l) = (⊥ : EReal) := by
      pointwise [k0_pay58]; exact ninf
    refine ⟨?_, ?_⟩
    · pointwise [k0_pay57]
      simp
    · simp only [h]
      exact LaneInv.zero _ _ _ _ _
  | succ K ih =>
    obtain ⟨ih1, ih2⟩ := ih (by omega)
    rw [st_k0_t2_succ (k := ⟨K, hK⟩)]
    generalize st_k0_t2 (F := Ideal) Variants.none c none i arg1 harg1 arg2 harg2 arg3 harg3 v2 v5 (harg1.unread X)
        (k0_pay57, k0_pay58, k0_pay59, k0_pay60) K = acc at ih1 ih2
    unfold tripR_k0_t2 trip_k0_t2
    dsimp only
    have hx : trip_k0_t2.sl.v291 (F := Ideal) arg1 (harg1.unread X) ⟨K, hK⟩ (ix2 r l) = row X r (1024 * K + l) := by
      pointwise [trip_k0_t2.sl.v291]
      exact read2 arg1 harg1 X ⟨K, hK⟩ r l
    have hy : k0_pay61 (trip_k0_t2.sl.v291 (F := Ideal) arg1 (harg1.unread X) ⟨K, hK⟩) (trip_k0_t2.sl.v464 i ⟨K, hK⟩)
        (trip_k0_t2.sl.v466 i ⟨K, hK⟩) 5#32 (ix2 r l)
          = samp (8 * (i 0).val + r) (row X r) (1024 * K + l) := by
      rw [pay61_eq, (words_chunk i ⟨K, hK⟩ (ix2 r l)).fst, (words_chunk i ⟨K, hK⟩ (ix2 r l)).snd, flatA_eq, hx]
      rfl
    have hc : BitVec.ofNat 32 l.val + trip_k0_t2.sl.v288 ⟨K, hK⟩ = BitVec.ofNat 32 (1024 * K + l) := by
      show _ + (0#32 + BitVec.ofNat 32 K * 1#32) * 1024#32 = _
      apply BitVec.eq_of_toNat_eq
      simp only [BitVec.toNat_mul, BitVec.toNat_add, BitVec.toNat_ofNat]
      omega
    have hstep := ih2.step
    rw [← hy, ← hx, ← hc] at hstep
    refine ⟨?_, ?_⟩
    · rw [Finset.sum_range_succ, ← ih1, ← hx, ← hm]
      pointwise [k0_pay62]
    · convert hstep using 1
      · pointwise [k0_pay64, k0_pay63]
      · pointwise [k0_pay65, k0_pay63]
        rfl
      · pointwise [k0_pay66, k0_pay63]
end

end Cert.KernelIdeal.Gen
end
-- ==== Proof.KernelOut.lean ====
module

public import proofs.«01_k».proof.Proof.KernelRow

/-! The reductions over the lanes that close a block of the first kernel region, and what the block leaves
for one row: the first column of the row's largest sample, and that column's log-probability. -/

@[expose] public section
set_option maxRecDepth 16384
noncomputable section
namespace Cert.KernelIdeal.Gen
open Idealize.ShloMosaic Idealize.ShloMosaic.TcCoe Cert.Sampler

/-- A choice by two conditions, the second an equality of words. -/
theorem sel_and {α : Type} (p : Prop) [Decidable p] (a b : BitVec 32) (x y : α) :
    Scalar.select (IntOp.andi (BitVec.ofBool (decide p)) (IntOp.cmpi .eq a b)) x y
      = if p ∧ a = b then x else y := by
  have hc : IntOp.cmpi .eq a b = BitVec.ofBool (decide (a = b)) := by
    simp only [IntOp.cmpi]; rfl
  rw [hc]
  by_cases h1 : p <;> by_cases h2 : a = b <;> simp [h1, h2] <;> rfl

/-- A choice by a condition, or by another together with a comparison of signed words. -/
theorem sel_or {α : Type} (p q : Prop) [Decidable p] [Decidable q] (a b : BitVec 32) (x y : α) :
    Scalar.select (IntOp.ori (BitVec.ofBool (decide p))
      (IntOp.andi (BitVec.ofBool (decide q)) (IntOp.cmpi .slt a b))) x y
      = if p ∨ q ∧ a.toInt < b.toInt then x else y := by
  have hc : IntOp.cmpi .slt a b = BitVec.ofBool (decide (a.toInt < b.toInt)) := by
    simp only [IntOp.cmpi, BitVec.slt]
  rw [hc]
  by_cases h1 : p <;> by_cases h2 : q <;> by_cases h3 : a.toInt < b.toInt <;> simp [h1, h2, h3] <;> rfl

/-- The lanes' sum. -/
theorem pay67_eq (v : FVec Ideal S8x1024 .f32) (r : Fin 8) :
    k0_pay67 v (ix2 r 0) = ∑ l : Fin 1024, v (ix2 r l) := by
  pointwise [k0_pay67]

/-- The lanes' largest score. -/
theorem pay68_eq (v : FVec Ideal S8x1024 .f32) (r : Fin 8) :
    k0_pay68 v (ix2 r 0) = Finset.univ.sup fun l : Fin 1024 => v (ix2 r l) := by
  pointwise [k0_pay68]
  rw [ninf, fold_max_sup]

/-- The least column among the lanes that hold the largest score. -/
theorem pay70_eq (v : FVec Ideal S8x1024 .f32) (vi : IVec S8x1024 32) (r : Fin 8) (z : EReal)
    (hz : k0_pay68 v (ix2 r 0) = z) :
    k0_pay70 v vi (ix2 r 0) = Finset.univ.fold IntOp.minsi 2147483647#32 fun l : Fin 1024 =>
      if v (ix2 r l) = z then vi (ix2 r l) else 100000#32 := by
  subst hz
  pointwise [k0_pay70, k0_pay69]

/-- The logit of the lane that holds the largest score at the least column. -/
theorem pay72_eq (v vx : FVec Ideal S8x1024 .f32) (vi : IVec S8x1024 32) (r : Fin 8) (z : EReal) (i : BitVec 32)
    (hz : k0_pay68 v (ix2 r 0) = z) (hi : k0_pay70 v vi (ix2 r 0) = i) :
    k0_pay72 vi vx (k0_pay69 v) (k0_pay71 v vi) (ix2 r 0) = Finset.univ.sup fun l : Fin 1024 =>
      if v (ix2 r l) = z ∧ vi (ix2 r l) = i then vx (ix2 r l) else ⊥ := by
  subst hz
  subst hi
  pointwise [k0_pay72, k0_pay69, k0_pay71]
  rw [ninf, fold_max_sup]
  exact Finset.sup_congr rfl fun l _ => sel_and _ _ _ _ _

/-- The last columns, as loaded. -/
theorem pay73_eq (v : FVec Ideal S8x672 .f32) (r : Fin 8) (l : Fin 672) :
    k0_pay73 v (ix2 r l) = v (ix2 r l) := by
  pointwise [k0_pay73]

/-- The sum of exponentials, the last columns' added. -/
theorem pay117_eq (v9 v26 : FVec Ideal S8x1 .f32) (v43 : FVec Ideal S8x672 .f32) (r : Fin 8) :
    k0_pay117 v9 v26 v43 (ix2 r 0) =
      v26 (ix2 r 0) + ∑ l : Fin 672, Ideal.exp (v43 (ix2 r l) - v9 (ix2 r 0)) := by
  pointwise [k0_pay117]

/-- The numbers of the last columns. -/
theorem pay118_eq (r : Fin 8) (l : Fin 672) :
    k0_pay118 (ix2 r l) = BitVec.ofNat 32 (99328 + l) := by
  pointwise [k0_pay118]
  rw [BitVec.ofNat_add, BitVec.add_comm]
  rfl

/-- The largest score among the last columns. -/
theorem pay119_eq (v43 : FVec Ideal S8x672 .f32) (v209 v215 : IVec S8x672 32) (r : Fin 8) :
    k0_pay119 v43 v209 v215 (ix1 r) = Finset.univ.sup fun l : Fin 672 => k0_pay116 v43 v209 v215 (ix2 r l) := by
  pointwise [k0_pay119]
  rw [ninf, fold_max_sup]

/-- The least of the last columns that hold their largest score. -/
theorem pay3_eq (v249 : FVec Ideal S8x672 .f32) (v258 : IVec S8x672 32) (v259 : FVec Ideal S8 .f32) (r : Fin 8) :
    k0_pay3 v249 v258 v259 (ix2 r 0) = Finset.univ.fold IntOp.minsi 2147483647#32 fun l : Fin 672 =>
      if v249 (ix2 r l) = v259 (ix1 r) then v258 (ix2 r l) else 100000#32 := by
  pointwise [k0_pay3, k0_pay2, k0_pay1]

/-- The action: the better of the whole chunks' column and the last columns'. -/
theorem pay6_eq (v28 : FVec Ideal S8x1 .f32) (v34 : IVec S8x1 32) (v249 : FVec Ideal S8x672 .f32)
    (v258 : IVec S8x672 32) (v259 : FVec Ideal S8 .f32) (r : Fin 8) (i2 : BitVec 32)
    (hi : k0_pay3 v249 v258 v259 (ix2 r 0) = i2) :
    k0_pay6 v28 v34 v249 v258 v259 (ix3 0 r 0) =
      if v259 (ix1 r) < v28 (ix2 r 0) ∨ v28 (ix2 r 0) = v259 (ix1 r) ∧ (v34 (ix2 r 0)).toInt < i2.toInt
      then v34 (ix2 r 0) else i2 := by
  subst hi
  pointwise [k0_pay6, k0_pay4, k0_pay1]
  rw [sel_or]

/-- The action's logit less the largest logit and the logarithm of the sum. -/
theorem pay5_eq (v9 v28 : FVec Ideal S8x1 .f32) (v34 : IVec S8x1 32) (v41 : FVec Ideal S8x1 .f32)
    (v43 v249 : FVec Ideal S8x672 .f32) (v255 : FVec Ideal S8x1 .f32)
    (v258 : IVec S8x672 32) (v259 : FVec Ideal S8 .f32) (r : Fin 8) (i2 : BitVec 32)
    (hi : k0_pay3 v249 v258 v259 (ix2 r 0) = i2) :
    k0_pay5 v9 v28 v34 v41 v43 v249 v255 v258 v259 (ix3 0 r 0) =
      ((if v259 (ix1 r) < v28 (ix2 r 0) ∨ v28 (ix2 r 0) = v259 (ix1 r) ∧ (v34 (ix2 r 0)).toInt < i2.toInt
      then v41 (ix2 r 0) else Finset.univ.sup fun l : Fin 672 =>
        if v249 (ix2 r l) = v259 (ix1 r) ∧ v258 (ix2 r l) = i2 then v43 (ix2 r l) else ⊥) - v9 (ix2 r 0))
        - Ideal.log (v255 (ix2 r 0)) := by
  subst hi
  pointwise [k0_pay5, k0_pay4, k0_pay2, k0_pay1]
  rw [sel_or, ninf, fold_max_sup]
  congr 3
  exact Finset.sup_congr rfl fun l _ => sel_and _ _ _ _ _

/-- One row of a block, of what its vectors hold there: the row's action is the first column of the largest
    sample, its log-probability that column's. -/
theorem row_of (x : ℕ → EReal) (R : ℕ) (v0 v1 v3 : FVec Ideal S8x1024 .f32) (v2 : IVec S8x1024 32)
    (v9 : FVec Ideal S8x1 .f32) (v43 : FVec Ideal S8x672 .f32) (v209 v215 : IVec S8x672 32) (r : Fin 8)
    (h : ∀ l : Fin 1024, LaneInv x (samp R x) l 97 (v1 (ix2 r l)) (v2 (ix2 r l)) (v3 (ix2 r l)))
    (hs : ∀ l : Fin 1024, v0 (ix2 r l) = ∑ k ∈ Finset.range 97, Ideal.exp (x (1024 * k + l) - rowMax x))
    (h9 : v9 (ix2 r 0) = rowMax x)
    (h43 : ∀ l : Fin 672, v43 (ix2 r l) = x (99328 + l))
    (h116 : ∀ l : Fin 672, k0_pay116 v43 v209 v215 (ix2 r l) = samp R x (99328 + l))
    (hb : rowMax x ≠ ⊥) :
    ∃ a, IsFirst (samp R x) a ∧
      k0_pay6 (k0_pay68 v1) (k0_pay70 v1 v2) (k0_pay116 v43 v209 v215) k0_pay118 (k0_pay119 v43 v209 v215)
        (ix3 0 r 0) = BitVec.ofNat 32 a ∧
      k0_pay5 v9 (k0_pay68 v1) (k0_pay70 v1 v2) (k0_pay72 v2 v3 (k0_pay69 v1) (k0_pay71 v1 v2)) v43
        (k0_pay116 v43 v209 v215) (k0_pay117 v9 (k0_pay67 v0) v43) k0_pay118 (k0_pay119 v43 v209 v215)
        (ix3 0 r 0) = rowLp x a := by
  have hy : ∃ c < 100000, samp R x c ≠ ⊥ := by
    by_contra hn
    refine hb (Finset.sup_eq_bot_iff _ _ |>.2 fun c hc => ?_)
    by_contra hx
    exact hn ⟨c, Finset.mem_range.1 hc, samp_ne_bot hx⟩
  have e68 := pay68_eq v1 r
  have e70 := pay70_eq v1 v2 r _ rfl
  have e72 := pay72_eq v1 v3 v2 r _ _ rfl rfl
  have e119 := pay119_eq v43 v209 v215 r
  have e3 := pay3_eq (k0_pay116 v43 v209 v215) k0_pay118 (k0_pay119 v43 v209 v215) r
  rw [pay6_eq _ _ _ _ _ r _ rfl, pay5_eq _ _ _ _ _ _ _ _ _ r _ rfl, h9, pay117_eq, pay67_eq, h9]
  simp only [h116, pay118_eq] at e3 e119
  simp only [h43, hs, h116, pay118_eq]
  rw [rowSum_eq]
  generalize k0_pay3 (F := Ideal) _ _ _ _ = i2 at *
  generalize k0_pay68 (F := Ideal) v1 _ = z1 at *
  generalize k0_pay70 (F := Ideal) v1 v2 _ = i1 at *
  generalize k0_pay72 (F := Ideal) _ _ _ _ _ = x1 at *
  generalize k0_pay119 (F := Ideal) _ _ _ _ = z2 at *
  have h1 := lanes x (samp R x) _ _ _ z1 x1 i1 h e68 (e70 ▸ fold_min _) e72
  have h2 := tail x (samp R x) z2 _ i2 e119 (e3 ▸ fold_min _) rfl
  obtain ⟨a, ha, ea, ex⟩ := combine x (samp R x) z1 z2 x1 _ i1 i2 h1 h2 hy
  refine ⟨a, ha, ea, ?_⟩
  rw [ex, rowLp]

end Cert.KernelIdeal.Gen
end
-- ==== Proof.KernelBlock.lean ====
module

public import proofs.«01_k».proof.Proof.KernelOut

/-! What a block of the first kernel region leaves for each of its eight rows. -/

@[expose] public section
set_option maxRecDepth 16384
noncomputable section
namespace Cert.KernelIdeal.Gen
open Idealize.ShloMosaic Idealize.ShloMosaic.TcCoe Cert.Sampler

/-- The words of the last columns after round 19. -/
theorem words_tail (i : grid0.Coords) (r : Fin 8) (l : Fin 672) :
    kernelRun0_A.sl.r_16 i (ix2 r l) = (pr19 (flatB (BitVec.ofNat 32 (i 0).val) (ix2 r l))).1 ∧
    kernelRun0_A.sl.r_17 i (ix2 r l) = (pr19 (flatB (BitVec.ofNat 32 (i 0).val) (ix2 r l))).2 := by
  have h := words_14 (words_8 (words_3 (BitVec.ofNat 32 (i 0).val) (ix2 r l)))
  unfold kernelRun0_A.sl.r_16 kernelRun0_A.sl.r_17 kernelRun0_A.sl.r_14 kernelRun0_A.sl.r_15
    kernelRun0_A.sl.r_12 kernelRun0_A.sl.r_13 kernelRun0_A.sl.r_10 kernelRun0_A.sl.r_11
  exact ⟨(words_19 h.1 h.2 rfl).fst, (words_19 h.1 h.2 rfl).snd⟩

/-- A row of a block: its action is the first column of the largest sample, its log-probability that column's. -/
theorem block_row (c : Dev nD) (i : grid0.Coords) (arg1 : Memref sig .tc .vmem S8x100000 .f32) (harg1 : arg1.IsWhole)
    (arg2 : Memref sig .tc .vmem S1x8x1 .f32) (harg2 : arg2.IsWhole) (arg3 : Memref sig .tc .vmem S1x8x1 .i32)
    (harg3 : arg3.IsWhole) (X : FVec Ideal S8x100000 .f32) (r : Fin 8) (hb : rowMax (row X r) ≠ ⊥) :
    ∃ a, IsFirst (samp (8 * (i 0).val + r) (row X r)) a ∧
      out0_A_2 (F := Ideal) c i arg1 harg1 arg2 harg2 arg3 harg3 X (ix3 0 r 0) = BitVec.ofNat 32 a ∧
      out0_A_1 (F := Ideal) c i arg1 harg1 arg2 harg2 arg3 harg3 X (ix3 0 r 0) = rowLp (row X r) a := by
  unfold out0_A_1 out0_A_2
  rw [View.read_writes_eq_canon _ _ _ (cover0_A_1 (F := Ideal) c i arg1 harg1 arg2 harg2 arg3 harg3 X),
    View.read_writes_eq_canon _ _ _ (cover0_A_2 (F := Ideal) c i arg1 harg1 arg2 harg2 arg3 harg3 X)]
  unfold kernelRun0_A
  dsimp only
  rw [View.canon_cons_unit_lit (S := S1x8x1) (h := by decide), View.canon_cons_unit_lit (S := S1x8x1) (h := by decide)]
  have h9 : kernelRun0_A.sl.r (F := Ideal) c i arg1 harg1 arg2 harg2 arg3 harg3 X (ix2 r 0) = rowMax (row X r) := by
    unfold kernelRun0_A.sl.r
    exact max_eq X _ _ r (fun l => st1_eq c i arg1 harg1 arg2 harg2 arg3 harg3 X 97 le_rfl r l)
      (fun l => read3 arg1 harg1 X r l)
  have h43 : ∀ l : Fin 672, kernelRun0_A.sl.r_9 (F := Ideal) arg1 harg1 X (ix2 r l) = row X r (99328 + l) := fun l => by
    unfold kernelRun0_A.sl.r_9
    rw [pay73_eq]
    exact read3 arg1 harg1 X r l
  have hw := words_tail i r
  have h2 := fun l : Fin 1024 => st2_eq c i arg1 harg1 arg2 harg2 arg3 harg3 X _ _ r _ h9 97 le_rfl l
  unfold kernelRun0_A.sl.r_4 kernelRun0_A.sl.r_6 kernelRun0_A.sl.r_8 kernelRun0_A.sl.r_18 kernelRun0_A.sl.r_19
    kernelRun0_A.sl.r_20 kernelRun0_A.sl.r_5 kernelRun0_A.sl.r_7 kernelRun0_A.sl.r_1 kernelRun0_A.sl.r_2
    kernelRun0_A.sl.r_3
  refine row_of (row X r) _ _ _ _ _ _ _ _ _ r (fun l => (h2 l).2) (fun l => (h2 l).1) h9 h43 (fun l => ?_) hb
  rw [pay116_eq _ _ _ _ _ _ (hw l).1 (hw l).2, h43, flatB_eq]
  rfl

end Cert.KernelIdeal.Gen
end
-- ==== Proof.Loss.lean ====
module

public import Idealize.ShloMosaic.PureOps.Ideal
public import Idealize.ShloMosaic.Lib.Pointwise

/-! The loss: the discounted sums of the reversed rewards, centred, divided by their deviation, and summed
against the negated log-probabilities. -/

@[expose] public section
noncomputable section
namespace Cert.Sampler
open Idealize.ShloMosaic

/-- The discounted sum after `k` steps: the rewards are taken from the last to the first. -/
def discC (r : Fin 20 → EReal) : ℕ → EReal
  | 0 => 0
  | k + 1 => discC r k * Ideal.ofBits .f32 0x3F7D70A4#32 + if h : k < 20 then r ⟨19 - k, by omega⟩ else 0

/-- The discounted sums, in the order in which they are found. -/
def disc (r : Fin 20 → EReal) (t : Fin 20) : EReal := discC r (t + 1)

/-- A discounted sum less the mean of all twenty. -/
def centred (d : Fin 20 → EReal) (t : Fin 20) : EReal :=
  d t - Ideal.div (∑ k, d k) (Ideal.ofBits .f32 0x41A00000#32)

/-- The deviation of the discounted sums, with nineteen for the divisor. -/
def devn (d : Fin 20 → EReal) : EReal :=
  Ideal.sqrt (Ideal.div (∑ k, centred d k * centred d k) (Ideal.ofBits .f32 0x41980000#32))

/-- The loss. -/
def loss (r lp : Fin 20 → EReal) : EReal :=
  ∑ t, Ideal.div (centred (disc r) t) (devn (disc r)) * (Ideal.ofBits .f32 0xBF800000#32 * lp t)

end Cert.Sampler
end
-- ==== Proof.KernelLoss.lean ====
module

public import proofs.«01_k».proof.Proof.Gen.KernelIdeal.Frame
public import proofs.«01_k».proof.Proof.Loss
public import Idealize.ShloMosaic.Lib.Pipeline.ValueKit
public import Idealize.ShloMosaic.Lib.Pointwise

/-! What the second kernel region leaves: the summed log-probabilities and the loss. -/

@[expose] public section
set_option maxRecDepth 16384
noncomputable section
namespace Cert.KernelIdeal.Gen
open Idealize.ShloMosaic Idealize.ShloMosaic.TcCoe Cert.Sampler

/-- The log-probabilities summed over the sixteen rows. -/
theorem pay1_eq (v0 : FVec Ideal S16x20 .f32) (t : Fin 20) :
    k1_pay1 v0 (ix2 0 t) = ∑ b : Fin 16, v0 (ix2 b t) := by
  pointwise [k1_pay1]

/-- A choice by an equality of words. -/
theorem sel_eq {α : Type} (a b : BitVec 32) (x y : α) :
    Scalar.select (IntOp.cmpi .eq a b) x y = if a = b then x else y := by
  have hc : IntOp.cmpi .eq a b = BitVec.ofBool (decide (a = b)) := by
    simp only [IntOp.cmpi]; rfl
  rw [hc]
  by_cases h : a = b <;> simp [h] <;> rfl

/-- The discounted sum after one more step. -/
theorem k1pay4_eq (v4 : FVec Ideal S1x20 .f32) (k : Fin k1_t1_loop.trips) (a : FVec Ideal S1x1 .f32) (hk : k.val < 20) :
    k1_pay4 v4 k a (ix2 0 0) = a (ix2 0 0) * Ideal.ofBits .f32 0x3F7D70A4#32 + v4 (ix2 0 ⟨19 - k, by omega⟩) := by
  pointwise [k1_pay4]
  have hw : ∀ x : Fin 20, BitVec.ofNat 32 x.val = Scalar.subi 19#32 (Scf.iv 0#32 1#32 k.val) ↔ x = ⟨19 - k, by omega⟩ := by
    intro x
    show BitVec.ofNat 32 x.val = 19#32 - (0#32 + BitVec.ofNat 32 k.val * 1#32) ↔ _
    rw [← BitVec.toNat_inj, Fin.ext_iff]
    simp only [BitVec.toNat_sub, BitVec.toNat_add, BitVec.toNat_mul, BitVec.toNat_ofNat]
    omega
  have hs : ∀ z : EReal, (∑ _x : Fin 1, z) = z := fun z => by simp
  rw [hs]
  congr 1
  rw [Finset.sum_eq_single (⟨19 - k, by omega⟩ : Fin 20)]
  · rw [sel_eq, if_pos ((hw _).2 rfl)]
  · intro x _ hx
    rw [sel_eq, if_neg (fun h => hx ((hw _).1 h))]
  · exact fun h => absurd (Finset.mem_univ _) h

/-- The discounted sums after one more step: one is filled in. -/
theorem k1pay5_eq (v4 : FVec Ideal S1x20 .f32) (k : Fin k1_t1_loop.trips) (a : FVec Ideal S1x1 .f32) (d : FVec Ideal S1x20 .f32)
    (t : Fin 20) (hk : k.val < 20) :
    k1_pay5 v4 k a d (ix2 0 t) = if t.val = k then k1_pay4 v4 k a (ix2 0 0) else d (ix2 0 t) := by
  pointwise [k1_pay5]
  have hw : BitVec.ofNat 32 t.val = Scf.iv 0#32 1#32 k.val ↔ t.val = k.val := by
    show BitVec.ofNat 32 t.val = 0#32 + BitVec.ofNat 32 k.val * 1#32 ↔ _
    rw [← BitVec.toNat_inj]
    simp only [BitVec.toNat_add, BitVec.toNat_mul, BitVec.toNat_ofNat]
    omega
  rw [sel_eq]
  simp only [hw]

/-- The loss of the discounted sums. -/
theorem k1pay6_eq (v0 : FVec Ideal S16x20 .f32) (d : FVec Ideal S1x20 .f32) :
    k1_pay6 v0 d (ix2 0 0) = ∑ t, Ideal.div (centred (fun t => d (ix2 0 t)) t) (devn (fun t => d (ix2 0 t))) *
      (Ideal.ofBits .f32 0xBF800000#32 * (k1_pay1 (F := Ideal) v0) (ix2 0 t)) := by
  pointwise [k1_pay6, centred, devn]
  have hs : ∀ z : EReal, (∑ _x : Fin 1, z) = z := fun z => by simp
  simp only [hs]

/-- What holds at the start and is kept by every step holds at the end. -/
theorem fold_inv {n : ℕ} {σ : Type} (g : Fin n → σ → σ) (P : ℕ → σ → Prop) (s : σ) (h0 : P 0 s)
    (hs : ∀ (k : Fin n) acc, P k acc → P (k + 1) (g k acc)) :
    P n ((List.finRange n).foldl (fun acc k => g k acc) s) := by
  induction n with
  | zero => exact h0
  | succ n ih =>
    rw [List.finRange_succ_last, List.foldl_append, List.foldl_map]
    exact hs (Fin.last n) _ (ih (fun k => g k.castSucc) (fun k acc h => hs k.castSucc acc h))

/-- What the region leaves, of its two inputs. -/
theorem block_loss (c : Dev nD) (arg0 : Memref sig .tc .vmem S16x20 .f32) (harg0 : arg0.IsWhole)
    (arg1 : Memref sig .tc .vmem S1x20 .f32) (harg1 : arg1.IsWhole) (arg2 : Memref sig .tc .vmem S1x20 .f32)
    (harg2 : arg2.IsWhole) (arg3 : Memref sig .tc .vmem S1x1 .f32) (harg3 : arg3.IsWhole)
    (x0 : FVec Ideal S16x20 .f32) (x1 : FVec Ideal S1x20 .f32) :
    (∀ t : Fin 20, out1_A_2 (F := Ideal) c arg0 harg0 arg1 harg1 arg2 harg2 arg3 harg3 x0 x1 (ix2 0 t) = ∑ b : Fin 16, x0 (ix2 b t)) ∧
    out1_A_3 (F := Ideal) c arg0 harg0 arg1 harg1 arg2 harg2 arg3 harg3 x0 x1 (ix2 0 0) =
      loss (fun t => x1 (ix2 0 t)) (fun t => ∑ b : Fin 16, x0 (ix2 b t)) := by
  unfold out1_A_2 out1_A_3
  rw [View.read_writes_eq_canon _ _ _ (cover1_A_2 (F := Ideal) c arg0 harg0 arg1 harg1 arg2 harg2 arg3 harg3 x0 x1),
    View.read_writes_eq_canon _ _ _ (cover1_A_3 (F := Ideal) c arg0 harg0 arg1 harg1 arg2 harg2 arg3 harg3 x0 x1)]
  unfold kernelRun1_A
  dsimp only
  rw [View.canon_cons_unit_lit (S := S1x20) (h := by decide), View.canon_cons_unit_lit (S := S1x1) (h := by decide)]
  unfold kernelRun1_A.sl.r_1 kernelRun1_A.sl.r
  rw [View.readAt_eq_ld, Memref.IsWhole.read_unread, View.ld_unit_lit (S := S16x20) (h := by decide),
    View.readAt_eq_ld, Memref.IsWhole.read_unread, View.ld_unit_lit (S := S1x20) (h := by decide)]
  refine ⟨fun t => pay1_eq x0 t, ?_⟩
  rw [k1pay6_eq, Scf.fold_eq]
  have h := fold_inv (n := k1_t1_loop.trips)
    (fun (k : Fin k1_t1_loop.trips) (p : FVec Ideal S1x1 .f32 × FVec Ideal S1x20 .f32) =>
      (k1_pay4 (F := Ideal) x1 k p.1, k1_pay5 (F := Ideal) x1 k p.1 p.2))
    (fun k p => p.1 (ix2 0 0) = discC (fun t => x1 (ix2 0 t)) k ∧
      ∀ t : Fin 20, t.val < k → p.2 (ix2 0 t) = disc (fun t => x1 (ix2 0 t)) t) (k1_pay2, k1_pay3)
    ⟨by pointwise [k1_pay2, discC], fun t h => absurd h (Nat.not_lt_zero _)⟩
    (fun k p hp => by
      have hk : k.val < 20 := k.isLt
      have h4 : k1_pay4 (F := Ideal) x1 k p.1 (ix2 0 0) = discC (fun t => x1 (ix2 0 t)) (k.val + 1) := by
        rw [k1pay4_eq _ _ _ hk, hp.1, discC, dif_pos hk]
      refine ⟨h4, fun t ht => ?_⟩
      show k1_pay5 (F := Ideal) x1 k p.1 p.2 (ix2 0 t) = _
      rw [k1pay5_eq _ _ _ _ _ hk]
      by_cases htk : t.val = k.val
      · rw [if_pos htk, h4, disc, htk]
      · rw [if_neg htk, hp.2 t (by omega)])
  have hd : (fun t => ((List.finRange k1_t1_loop.trips).foldl (fun acc k =>
      (k1_pay4 (F := Ideal) x1 k acc.1, k1_pay5 (F := Ideal) x1 k acc.1 acc.2)) (k1_pay2, k1_pay3)).2 (ix2 0 t))
        = disc (fun t => x1 (ix2 0 t)) := funext fun t => h.2 t t.isLt
  rw [loss]
  refine Finset.sum_congr rfl fun t _ => ?_
  rw [hd, pay1_eq]

end Cert.KernelIdeal.Gen
end
-- ==== Proof.Result.lean ====
module

public import proofs.«01_k».proof.Proof.Spec
public import proofs.«01_k».proof.Proof.Word
public import proofs.«01_k».proof.Proof.Loss

/-! The three results as functions of the logits and the rewards: the sampled action of every row, the
log-probabilities of the actions summed over each step's sixteen rows, and the loss. -/

@[expose] public section
noncomputable section
namespace Cert.Sampler
open Idealize.ShloMosaic

/-- The action of row `b` of step `t`. -/
def action (x : Fin 20 → Fin 16 → Fin 100000 → EReal) (t : Fin 20) (b : Fin 16) : ℕ :=
  act (samp (16 * t + b) (col (x t b)))

/-- The summed log-probabilities of step `t`. -/
def logProb (x : Fin 20 → Fin 16 → Fin 100000 → EReal) (t : Fin 20) : EReal :=
  ∑ b : Fin 16, rowLp (col (x t b)) (action x t b)

end Cert.Sampler
end
-- ==== Proof.KernelArr.lean ====
module

public import proofs.«01_k».proof.Proof.KernelBlock
public import proofs.«01_k».proof.Proof.KernelLoss
public import proofs.«01_k».proof.Proof.Result

/-! The arrays that the kernel's two regions leave. -/

@[expose] public section
set_option maxRecDepth 16384
noncomputable section
namespace Cert.KernelIdeal.Gen
open Idealize.ShloMosaic Idealize.ShloMosaic.TcCoe Cert.Sampler

variable (V : (c : Dev nD) → (b : Ref sig .tc) → Buf (Elt Ideal) ((c : Thread nD τ).loc b))

/-- Row `R` of the 320. -/
def rowA (A : FVec Ideal S320x100000 .f32) (R : ℕ) (c : ℕ) : EReal :=
  if h : R < 320 then col (fun k => A (ix2 ⟨R, h⟩ k)) c else ⊥

/-- The first window's block at a step: the step's rows. -/
theorem index0_0 : ∀ t : Fin cfg0.N, win0_0.index t 0 = (grid0.coords t 0).val := by decide +kernel
/-- The first window's block at a step spans all columns. -/
theorem index0_1 : ∀ t : Fin cfg0.N, win0_0.index t 1 = 0 := by decide +kernel
/-- The log-probabilities' block at a step: the step's own. -/
theorem index1_0 : ∀ t : Fin cfg0.N, win0_1.index t 0 = (grid0.coords t 0).val := by decide +kernel
/-- The log-probabilities' block has no offset on the second axis. -/
theorem index1_1 : ∀ t : Fin cfg0.N, win0_1.index t 1 = 0 := by decide +kernel
/-- The actions' block at a step: the step's own. -/
theorem index2_0 : ∀ t : Fin cfg0.N, win0_2.index t 0 = (grid0.coords t 0).val := by decide +kernel
/-- The actions' block has no offset on the second axis. -/
theorem index2_1 : ∀ t : Fin cfg0.N, win0_2.index t 1 = 0 := by decide +kernel

/-- A block's row is a row of the array. -/
theorem iblk0_row (c : Dev nD) (t : Fin cfg0.N) (r : Fin 8) :
    row (iblk0 V c 0 t) r = rowA (V c main_call0_v0) (8 * (grid0.coords t 0).val + r) := by
  funext k
  have ht : (grid0.coords t 0).val < 40 := (grid0.coords t 0).isLt
  have hR : 8 * (grid0.coords t 0).val + r.val < 320 := by omega
  rw [rowA, dif_pos hR, row, col]
  by_cases hk : k < 100000
  · rw [dif_pos hk, dif_pos hk]
    unfold iblk0
    blk_simp
    have e := index0_0 t
    have e' := index0_1 t
    congr 1
    blk_ext
  · rw [dif_neg hk, dif_neg hk]

/-- An index of a block's output is its row's. -/
theorem idx_block (y : S1x8x1.Idx) : ∃ r : Fin 8, y = ix3 0 r 0 := by
  refine ⟨y 1, ?_⟩
  funext a
  fin_cases a
  · exact Subsingleton.elim (α := Fin 1) _ _
  · rfl
  · exact Subsingleton.elim (α := Fin 1) _ _

/-- The array of log-probabilities after the first region, where every row has an entry above −∞. -/
theorem arr_lp (c : Dev nD) (h : ∀ R < 320, rowMax (rowA (V c main_call0_v0) R) ≠ ⊥) :
    (dat0 V c).arrAt 1 cfg0.N = fun y => rowLp (rowA (V c main_call0_v0) (8 * (y 0).val + (y 1).val))
      (act (samp (8 * (y 0).val + (y 1).val) (rowA (V c main_call0_v0) (8 * (y 0).val + (y 1).val)))) := by
  refine (dat0 V c).arrAt_eq_of_covers 1 _ (by decide +kernel) fun t hf y => ?_
  blk_simp
  rw [after0_1]
  unfold outsAt0
  dsimp only
  rw [index1_0, index1_1]
  obtain ⟨r, rfl⟩ := idx_block y
  have ht : (grid0.coords t 0).val < 40 := (grid0.coords t 0).isLt
  have hR : 8 * (grid0.coords t 0).val + r.val < 320 := by omega
  obtain ⟨a, ha, h2, h1⟩ := block_row c (grid0.coords t) (ms0_0 t) (hs0_0 t) (ms0_1 t) (hs0_1 t) (ms0_2 t) (hs0_2 t)
    (iblk0 V c 0 t) r (by rw [iblk0_row]; exact h _ hR)
  rw [iblk0_row] at ha
  try rw [iblk0_row] at h1
  refine h1.trans ?_
  simp only [Nat.zero_mul, Nat.zero_add]
  show rowLp _ a = rowLp (rowA (V c main_call0_v0) (8 * (grid0.coords t 0).val + r.val))
    (act (samp (8 * (grid0.coords t 0).val + r.val) (rowA (V c main_call0_v0) (8 * (grid0.coords t 0).val + r.val))))
  rw [act_eq ha]

/-- The array of actions after the first region, where every row has an entry above −∞. -/
theorem arr_act (c : Dev nD) (h : ∀ R < 320, rowMax (rowA (V c main_call0_v0) R) ≠ ⊥) :
    (dat0 V c).arrAt 2 cfg0.N = fun y => BitVec.ofNat 32
      (act (samp (8 * (y 0).val + (y 1).val) (rowA (V c main_call0_v0) (8 * (y 0).val + (y 1).val)))) := by
  refine (dat0 V c).arrAt_eq_of_covers 2 _ (by decide +kernel) fun t hf y => ?_
  blk_simp
  rw [after0_2]
  unfold outsAt0
  dsimp only
  rw [index2_0, index2_1]
  obtain ⟨r, rfl⟩ := idx_block y
  have ht : (grid0.coords t 0).val < 40 := (grid0.coords t 0).isLt
  have hR : 8 * (grid0.coords t 0).val + r.val < 320 := by omega
  obtain ⟨a, ha, h2, h1⟩ := block_row c (grid0.coords t) (ms0_0 t) (hs0_0 t) (ms0_1 t) (hs0_1 t) (ms0_2 t) (hs0_2 t)
    (iblk0 V c 0 t) r (by rw [iblk0_row]; exact h _ hR)
  rw [iblk0_row] at ha
  try rw [iblk0_row] at h1
  refine h2.trans ?_
  simp only [Nat.zero_mul, Nat.zero_add]
  show BitVec.ofNat 32 a = BitVec.ofNat 32
    (act (samp (8 * (grid0.coords t 0).val + r.val) (rowA (V c main_call0_v0) (8 * (grid0.coords t 0).val + r.val))))
  rw [act_eq ha]

end Cert.KernelIdeal.Gen
end
-- ==== Proof.KernelHost.lean ====
module

public import proofs.«01_k».proof.Proof.KernelArr
public import Idealize.ShloMosaic.Lib.StableHlo.ReadAt

/-! What the kernel's three results hold, at an index. -/

@[expose] public section
set_option maxRecDepth 16384
noncomputable section
namespace Cert.KernelIdeal.Gen
open Idealize.ShloMosaic Idealize.ShloMosaic.TcCoe Cert.Sampler

variable (m : (ℓ : Loc nD τ sig) → Buf (Elt Ideal) ℓ) (ρ : Dev nD → PrngReg) (c : Dev nD)

/-- The logits as launched. -/
abbrev logits (t : Fin 20) (b : Fin 16) (k : Fin 100000) : EReal := m ((c : Thread nD τ).loc main_arg0) (ix3 t b k)
/-- The rewards as launched. -/
abbrev rewards (t : Fin 20) : EReal := m ((c : Thread nD τ).loc main_arg1) (ix1 t)

/-- The first region's input: the logits with the two leading axes joined. -/
theorem V1_at (R : Fin 320) (k : Fin 100000) :
    V1 m ρ c main_call0_v0 (ix2 R k) = logits m c ⟨R / 16, by omega⟩ ⟨R % 16, by omega⟩ k := by
  show StableHlo.after hostOps0 (W0 m ρ c) (Proc.devRef .tc main_call0_v0) (ix2 R k) = _
  after_reads_at

/-- The actions are the first region's, read by step and row. -/
theorem W3_actions (t : Fin 20) (b : Fin 16) :
    W3 m ρ c (Proc.devRef .tc main_v0_0) (ix2 t b) =
      W2 m ρ c (Proc.devRef .tc main_call0_v1_1) (ix3 (n0 := 40) (n1 := 8) (n2 := 1) ⟨t.val * 2 + b.val / 8, by omega⟩ ⟨b.val % 8, by omega⟩ 0) := by
  show StableHlo.after hostOps1 (W2 m ρ c) (Proc.devRef .tc main_v0_0) (ix2 t b) = _
  after_reads_at

/-- The second region's first input is the log-probabilities, a column for each step. -/
theorem W3_lp (t : Fin 20) (b : Fin 16) :
    W3 m ρ c (Proc.devRef .tc main_call0_v4) (ix2 b t) =
      W2 m ρ c (Proc.devRef .tc main_call0_v1_0) (ix3 (n0 := 40) (n1 := 8) (n2 := 1) ⟨t.val * 2 + b.val / 8, by omega⟩ ⟨b.val % 8, by omega⟩ 0) := by
  show StableHlo.after hostOps1 (W2 m ρ c) (Proc.devRef .tc main_call0_v4) (ix2 b t) = _
  after_reads_at

/-- The second region's second input is the rewards. -/
theorem W3_rewards (t : Fin 20) :
    W3 m ρ c (Proc.devRef .tc main_call0_v5) (ix2 0 t) = rewards m c t := by
  have e := W2_args m ρ c main_arg1 (by decide)
  show StableHlo.after hostOps1 (W2 m ρ c) (Proc.devRef .tc main_call0_v5) (ix2 0 t) = _
  after_reads_at
  exact congrFun e _

/-- The second result is the second region's first output. -/
theorem W5_lp (t : Fin 20) :
    W5 m ρ c (Proc.devRef .tc main_v0_1) (ix1 t) = W4 m ρ c (Proc.devRef .tc main_call0_v6_0) (ix2 0 t) := by
  show StableHlo.after hostOps2 (W4 m ρ c) (Proc.devRef .tc main_v0_1) (ix1 t) = _
  after_reads_at

/-- The third result is the second region's second output. -/
theorem W5_loss :
    W5 m ρ c (Proc.devRef .tc main_v0_2) ix0 = W4 m ρ c (Proc.devRef .tc main_call0_v6_1) (ix2 0 0) := by
  show StableHlo.after hostOps2 (W4 m ρ c) (Proc.devRef .tc main_v0_2) ix0 = _
  after_reads_at

/-- A row of the first region's input is a row of the logits. -/
theorem rowA_V1 (t : Fin 20) (b : Fin 16) :
    rowA (V1 m ρ c main_call0_v0) (16 * t + b) = col (logits m c t b) := by
  funext k
  have hR : 16 * t.val + b.val < 320 := by omega
  rw [rowA, dif_pos hR]
  congr 1
  funext k
  rw [V1_at]
  have e1 : (⟨(16 * t.val + b.val) / 16, by omega⟩ : Fin 20) = t := Fin.ext (by show (16 * t.val + b.val) / 16 = t.val; omega)
  have e2 : (⟨(16 * t.val + b.val) % 16, by omega⟩ : Fin 16) = b := Fin.ext (by show (16 * t.val + b.val) % 16 = b.val; omega)
  show logits m c ⟨(16 * t.val + b.val) / 16, _⟩ ⟨(16 * t.val + b.val) % 16, _⟩ k = _
  rw [e1, e2]

variable (h : ∀ t b, rowMax (col (logits m c t b)) ≠ ⊥)

include h in
/-- No row of the first region's input is all minus infinity. -/
theorem rowA_ne : ∀ R < 320, rowMax (rowA (V1 m ρ c main_call0_v0) R) ≠ ⊥ := by
  intro R hR
  have e := rowA_V1 m ρ c ⟨R / 16, by omega⟩ ⟨R % 16, by omega⟩
  have : 16 * (R / 16) + R % 16 = R := by omega
  simp only [this] at e
  rw [e]; exact h _ _

include h in
/-- The kernel's actions. -/
theorem kernel_actions : W5 m ρ c (Proc.devRef .tc main_v0_0) = fun y : S20x16.Idx =>
    BitVec.ofNat 32 (action (logits m c) (y 0) (y 1)) := by
  rw [W5_of m ρ c main_v0_0 (by decide), W4_of m ρ c main_v0_0 (by decide)]
  funext y
  obtain ⟨t, b, rfl⟩ : ∃ (t : Fin 20) (b : Fin 16), y = ix2 t b := ⟨y 0, y 1, eq_ix2 y⟩
  refine (W3_actions m ρ c t b).trans ?_
  rw [show W2 m ρ c (Proc.devRef .tc main_call0_v1_1) = _ from (W2_arr m ρ c 2).trans (arr_act (V1 m ρ) c (rowA_ne m ρ c h))]
  have e : 8 * (t.val * 2 + b.val / 8) + b.val % 8 = 16 * t.val + b.val := by omega
  show BitVec.ofNat 32 (act (samp (8 * (t.val * 2 + b.val / 8) + b.val % 8) (rowA (V1 m ρ c main_call0_v0) (8 * (t.val * 2 + b.val / 8) + b.val % 8)))) = _
  rw [e, rowA_V1]
  rfl

include h in
/-- The second region reads the log-probability of row `b` of step `t`. -/
theorem lp_at (t : Fin 20) (b : Fin 16) : W3 m ρ c (Proc.devRef .tc main_call0_v4) (ix2 b t) =
    rowLp (col (logits m c t b)) (action (logits m c) t b) := by
  refine (W3_lp m ρ c t b).trans ?_
  rw [show W2 m ρ c (Proc.devRef .tc main_call0_v1_0) = _ from (W2_arr m ρ c 1).trans (arr_lp (V1 m ρ) c (rowA_ne m ρ c h))]
  have e : 8 * (t.val * 2 + b.val / 8) + b.val % 8 = 16 * t.val + b.val := by omega
  show rowLp (rowA (V1 m ρ c main_call0_v0) (8 * (t.val * 2 + b.val / 8) + b.val % 8)) (act (samp (8 * (t.val * 2 + b.val / 8) + b.val % 8) (rowA (V1 m ρ c main_call0_v0) (8 * (t.val * 2 + b.val / 8) + b.val % 8)))) = _
  rw [e, rowA_V1]
  rfl

/-- The second region's first block is its whole array. -/
theorem iblk1_lp {c : Dev nD} (V : (c : Dev nD) → (b : Ref sig .tc) → Buf (Elt Ideal) ((c : Thread nD τ).loc b)) (t : Fin cfg1.N) (b : Fin 16) (s : Fin 20) :
    iblk1 V c 0 t (ix2 b s) = V c main_call0_v4 (ix2 b s) := by
  unfold iblk1
  blk_simp
  have e0 : win1_0.index t 0 = 0 := by revert t; decide +kernel
  have e1 : win1_0.index t 1 = 0 := by revert t; decide +kernel
  congr 1
  blk_ext

/-- The second region's second block is its whole array. -/
theorem iblk1_rewards {c : Dev nD} (V : (c : Dev nD) → (b : Ref sig .tc) → Buf (Elt Ideal) ((c : Thread nD τ).loc b)) (t : Fin cfg1.N) (s : Fin 20) :
    iblk1 V c 1 t (ix2 0 s) = V c main_call0_v5 (ix2 0 s) := by
  unfold iblk1
  blk_simp
  have e0 : win1_1.index t 0 = 0 := by revert t; decide +kernel
  have e1 : win1_1.index t 1 = 0 := by revert t; decide +kernel
  congr 1
  blk_ext

include h in
/-- The second region's first output: the summed log-probabilities. -/
theorem arr_sum : (dat1 (V3 m ρ) c).arrAt 2 cfg1.N = fun y : S1x20.Idx => logProb (logits m c) (y 1) := by
  refine (dat1 (V3 m ρ) c).arrAt_eq_of_covers 2 _ (by decide +kernel) fun t hf y => ?_
  have e1 : win1_2.index t 1 = 0 := by clear hf y; revert t; decide +kernel
  blk_simp
  rw [after1_2]
  unfold outsAt1
  dsimp only
  obtain ⟨s, rfl⟩ : ∃ s : Fin 20, y = ix2 0 s := ⟨y 1, by rw [eq_ix2 y]; congr 1; exact Subsingleton.elim (α := Fin 1) _ _⟩
  refine ((block_loss c (ms1_0 t) (hs1_0 t) (ms1_1 t) (hs1_1 t) (ms1_2 t) (hs1_2 t) (ms1_3 t) (hs1_3 t) (iblk1 (V3 m ρ) c 0 t) (iblk1 (V3 m ρ) c 1 t)).1 s).trans ?_
  have e : ((View.whole main_call0_v6_0).slice (win1_2.rect t)).emb (ix2 0 s) 1 = s :=
    Fin.ext (by show win1_2.index t 1 * 20 + 1 * s.val = s.val; rw [e1]; omega)
  refine Eq.trans ?_ (congrArg (logProb (logits m c)) e).symm
  exact Finset.sum_congr rfl fun b _ => (iblk1_lp (V3 m ρ) t b s).trans (lp_at m ρ c h s b)

include h in
/-- The second region's second output: the loss. -/
theorem arr_loss : (dat1 (V3 m ρ) c).arrAt 3 cfg1.N = fun y : S1x1.Idx => loss (rewards m c) (logProb (logits m c)) := by
  refine (dat1 (V3 m ρ) c).arrAt_eq_of_covers 3 _ (by decide +kernel) fun t hf y => ?_
  blk_simp
  rw [after1_3]
  unfold outsAt1
  dsimp only
  obtain rfl : y = ix2 0 0 := by rw [eq_ix2 y]; congr 1 <;> exact Subsingleton.elim (α := Fin 1) _ _
  refine ((block_loss c (ms1_0 t) (hs1_0 t) (ms1_1 t) (hs1_1 t) (ms1_2 t) (hs1_2 t) (ms1_3 t) (hs1_3 t) (iblk1 (V3 m ρ) c 0 t) (iblk1 (V3 m ρ) c 1 t)).2).trans ?_
  have e1 : (fun s : Fin 20 => iblk1 (V3 m ρ) c 1 t (ix2 0 s)) = rewards m c :=
    funext fun s => (iblk1_rewards (V3 m ρ) t s).trans (W3_rewards m ρ c s)
  have e2 : (fun s : Fin 20 => Finset.sum (M := EReal) Finset.univ fun b : Fin 16 => iblk1 (V3 m ρ) c 0 t (ix2 b s)) = logProb (logits m c) :=
    funext fun s => Finset.sum_congr rfl fun b _ => (iblk1_lp (V3 m ρ) t b s).trans (lp_at m ρ c h s b)
  exact congrArg₂ loss e1 e2

include h in
/-- The kernel's summed log-probabilities. -/
theorem kernel_logProb : W5 m ρ c (Proc.devRef .tc main_v0_1) = fun y : S20.Idx => logProb (logits m c) (y 0) := by
  funext y
  obtain ⟨t, rfl⟩ : ∃ t : Fin 20, y = ix1 t := ⟨y 0, eq_ix1 y⟩
  refine (W5_lp m ρ c t).trans ?_
  rw [show W4 m ρ c (Proc.devRef .tc main_call0_v6_0) = _ from (W4_arr m ρ c 2).trans (arr_sum m ρ c h)]
  rfl

include h in
/-- The kernel's loss. -/
theorem kernel_loss : W5 m ρ c (Proc.devRef .tc main_v0_2) = fun _ : S_.Idx => loss (rewards m c) (logProb (logits m c)) := by
  funext y
  obtain rfl : y = ix0 := funext fun a => a.elim0
  refine (W5_loss m ρ c).trans ?_
  rw [show W4 m ρ c (Proc.devRef .tc main_call0_v6_1) = _ from (W4_arr m ρ c 3).trans (arr_loss m ρ c h)]

section Run
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

omit c in
set_option backward.isDefEq.respectTransparency.types false in
/-- Every run of the program ends with the three results at the last boundary's contents and the arguments as launched. -/
theorem run_results : θ_run defs (onTc (τ := τ) (main (F := Ideal))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v0_0 (by decide)), h c _ (mem_uc main_v0_1 (by decide)), h c _ (mem_uc main_v0_2 (by decide)),
      (h c _ (mem_uc main_arg0 (by decide))).trans (W5_main_arg0 m ρ c), (h c _ (mem_uc main_arg1 (by decide))).trans (W5_main_arg1 m ρ c)⟩)

end Run

end Cert.KernelIdeal.Gen
end
-- ==== Proof.RefWord.lean ====
module

public import proofs.«01_k».proof.Proof.Word
public import proofs.«01_k».proof.Proof.Gen.ReferenceIdeal.Run
public import Idealize.ShloMosaic.Lib.StableHlo.ReadAt

/-! The reference's random words: its twenty rounds, read one round after another. -/

@[expose] public section
set_option maxRecDepth 100000
noncomputable section
namespace Cert.ReferenceIdeal.Gen
open Idealize.ShloMosaic Idealize.ShloMosaic.TcCoe Cert.Sampler

/-- The program's buffers. -/
abbrev Bufs := Valuation τ sig (Elt Ideal)

/-- A buffer's contents. -/
abbrev rd (V : Bufs) (b : Ref sig .tc) := V (Proc.devRef .tc b)

/-- The second word of a round, its rotation made of two shifts by less than the width. -/
theorem rnd_host (a b : BitVec 32) (p : BitVec 32 × BitVec 32) (ha : a.toNat < 32) (hb : b.toNat < 32) :
    IntOp.xori (IntOp.addi p.1 p.2) (IntOp.ori (IntOp.shli ArithUnit.host p.2 a) (IntOp.shrui ArithUnit.host p.2 b)) = (rnd a b p).2 := by
  unfold IntOp.shli IntOp.shrui
  rw [if_pos ha, if_pos hb]
  exact BitVec.xor_comm _ _

/-- A buffer of one word per element. -/
abbrev Big := StableHlo.TRef sig ⟨S20x16x100000, .i32⟩
/-- A buffer of one word. -/
abbrev One := StableHlo.TRef sig ⟨S_, .i32⟩

/-- What a buffer holds, at its value's type. -/
def val {T : BufTy} (V : Bufs) (x : StableHlo.TRef sig T) : T.Contents (Elt Ideal) := x.ofBuf (V (Proc.devRef .tc x.ref))

section Values
variable {T Ta Tb U : BufTy} (V : Bufs) (a : StableHlo.TRef sig Ta) (b : StableHlo.TRef sig Tb)
  (y : StableHlo.TRef sig T) (z : StableHlo.TRef sig U)

/-- A constant's buffer holds the constant. -/
theorem val_nullary (v : T.Contents (Elt Ideal)) : val ((StableHlo.TRef.nullary (τ := τ) y v).result V) y = v := by
  unfold val
  rw [StableHlo.nullary_result, StableHlo.TRef.ofBuf_toBuf]
/-- The buffer of a function of one operand holds its value. -/
theorem val_unary (f : Ta.Contents (Elt Ideal) → T.Contents (Elt Ideal)) :
    val ((StableHlo.TRef.unary (τ := τ) a y f).result V) y = f (val V a) := by
  unfold val
  rw [StableHlo.unary_result, StableHlo.TRef.ofBuf_toBuf]
/-- The buffer of a function of two operands holds its value. -/
theorem val_binary (f : Ta.Contents (Elt Ideal) → Tb.Contents (Elt Ideal) → T.Contents (Elt Ideal)) :
    val ((StableHlo.TRef.binary (τ := τ) a b y f).result V) y = f (val V a) (val V b) := by
  unfold val
  rw [StableHlo.binary_result, StableHlo.TRef.ofBuf_toBuf]
/-- A constant leaves the other buffers as they are. -/
theorem val_nullary_ne (v : T.Contents (Elt Ideal)) (h : z.ref ≠ y.ref) :
    val ((StableHlo.TRef.nullary (τ := τ) y v).result V) z = val V z := by
  unfold val
  rw [StableHlo.nullary_result_ne _ _ _ _ h]
/-- A function of one operand leaves the other buffers as they are. -/
theorem val_unary_ne (f : Ta.Contents (Elt Ideal) → T.Contents (Elt Ideal)) (h : z.ref ≠ y.ref) :
    val ((StableHlo.TRef.unary (τ := τ) a y f).result V) z = val V z := by
  unfold val
  rw [StableHlo.unary_result_ne _ _ _ _ _ _ h]
/-- A function of two operands leaves the other buffers as they are. -/
theorem val_binary_ne (f : Ta.Contents (Elt Ideal) → Tb.Contents (Elt Ideal) → T.Contents (Elt Ideal)) (h : z.ref ≠ y.ref) :
    val ((StableHlo.TRef.binary (τ := τ) a b y f).result V) z = val V z := by
  unfold val
  rw [StableHlo.binary_result_ne _ _ _ _ _ _ _ _ h]
end Values

/-- The buffers of the three key words. -/
def key : Fin 3 → One := ![.of main_v8, .of main_v10, .of main_call0_v1]
/-- The three key words. -/
def keyWord : Fin 3 → BitVec 32 := ![0#32, 42#32, 466689008#32]

/-- A part of the stretch, with the buffers that it writes: a round with its two shift amounts, or two key words
and a number added to the pair. -/
inductive Part where
  | round (m n : BitVec 32) (x' : Big) (c : One) (s l : Big) (d : One) (u r o y' : Big)
  | key (i j : Fin 3) (n : BitVec 32) (s x' u e : Big) (c : One) (v y' : Big)

/-- The two buffers that hold the pair after a part. -/
def Part.out : Part → Big × Big
  | round _ _ x' _ _ _ _ _ _ _ y' => (x', y')
  | key _ _ _ _ x' _ _ _ _ y' => (x', y')

/-- A word in every element. -/
def fill : IVec S_ 32 → IVec S20x16x100000 32 := broadcastInDim S20x16x100000 ![] bcast_S_S20x16x100000

/-- A part's operations, on the pair held by the buffers `xy`. -/
def Part.ops (xy : Big × Big) : Part → List (HloOp τ sig (Elt Ideal))
  | round m n x' c s l d u r o y' =>
    [StableHlo.TRef.binary xy.1 xy.2 x' addi, StableHlo.TRef.nullary c (constantI S_ 32 m), StableHlo.TRef.unary c s fill, StableHlo.TRef.binary xy.2 s l Host.shli,
      StableHlo.TRef.nullary d (constantI S_ 32 n), StableHlo.TRef.unary d u fill, StableHlo.TRef.binary xy.2 u r Host.shrui, StableHlo.TRef.binary l r o ori, StableHlo.TRef.binary x' o y' xori]
  | key i j n s x' u e c v y' =>
    [StableHlo.TRef.unary (Gen.key i) s fill, StableHlo.TRef.binary xy.1 s x' addi, StableHlo.TRef.unary (Gen.key j) u fill, StableHlo.TRef.binary xy.2 u e addi,
      StableHlo.TRef.nullary c (constantI S_ 32 n), StableHlo.TRef.unary c v fill, StableHlo.TRef.binary e v y' addi]

/-- What a part does to the pair. -/
def Part.pair : Part → BitVec 32 × BitVec 32 → BitVec 32 × BitVec 32
  | round m n _ _ _ _ _ _ _ _ _ => rnd m n
  | key i j n _ _ _ _ _ _ _ => inj (keyWord i) (keyWord j) n

/-- The buffers that a part writes. -/
def Part.writes : Part → List (Ref sig .tc)
  | round _ _ x' c s l d u r o y' => [x'.ref, c.ref, s.ref, l.ref, d.ref, u.ref, r.ref, o.ref, y'.ref]
  | key _ _ _ s x' u e c v y' => [s.ref, x'.ref, u.ref, e.ref, c.ref, v.ref, y'.ref]

/-- A round's shift amounts are below the width. -/
def Part.short : Part → Prop
  | round m n _ _ _ _ _ _ _ _ _ => m.toNat < 32 ∧ n.toNat < 32
  | key .. => True

/-- A part writes different buffers, none of them a key word's or one of those that held the pair. -/
def Part.Apart (xy : Big × Big) (p : Part) : Prop :=
  p.writes.Nodup ∧ xy.1.ref ∉ p.writes ∧ xy.2.ref ∉ p.writes ∧ ∀ i, (Gen.key i).ref ∉ p.writes

/-- The key words are in their buffers and the pair `p`, at an element, in the buffers `xy`. -/
structure Holds (V : Bufs) (q : S20x16x100000.Idx) (xy : Big × Big) (p : BitVec 32 × BitVec 32) : Prop where
  keys : ∀ i, val V (key i) ix0 = keyWord i
  fst : val V xy.1 q = p.1
  snd : val V xy.2 q = p.2

/-- A word in every element, read at one. -/
theorem fill_at (v : IVec S_ 32) (q : S20x16x100000.Idx) : fill v q = v ix0 := by
  unfold fill
  pointwise

/-- A part leaves the pair that it should. -/
theorem Part.step {V : Bufs} {q : S20x16x100000.Idx} {xy : Big × Big} {p : BitVec 32 × BitVec 32} (P : Part)
    (hs : P.short) (ha : P.Apart xy) (h : Holds V q xy p) : Holds (StableHlo.after (P.ops xy) V) q P.out (P.pair p) := by
  obtain ⟨hk, h0, h1⟩ := h
  obtain ⟨nd, nx, ny, nk⟩ := ha
  cases P with
  | round m n x' c s l d u r o y' =>
    simp only [Part.writes, List.nodup_cons, List.mem_cons, List.not_mem_nil, not_or, not_false_eq_true, or_false, and_true,
      List.nodup_nil] at nd nx ny nk
    refine ⟨fun i => ?_, ?_, ?_⟩
    · simp only [Part.ops, StableHlo.after_cons, StableHlo.after_nil, val_nullary_ne, val_unary_ne, val_binary_ne, ne_eq,
        nk, not_false_eq_true]
      exact hk i
    · simp only [Part.ops, Part.out, StableHlo.after_cons, StableHlo.after_nil, val_nullary_ne, val_unary_ne, val_binary_ne, ne_eq,
        nd, nx, ny, not_false_eq_true, val_binary]
      rw [show addi (val V xy.1) (val V xy.2) q = val V xy.1 q + val V xy.2 q from rfl, h0, h1]
      rfl
    · simp only [Part.ops, Part.out, StableHlo.after_cons, StableHlo.after_nil, val_nullary_ne, val_unary_ne, val_binary_ne, ne_eq,
        nd, nx, ny, not_false_eq_true, val_binary, val_unary, val_nullary]
      refine Eq.trans ?_ (rnd_host m n p hs.1 hs.2)
      rw [← h0, ← h1]
      exact congrArg₂ (fun a b => IntOp.xori (IntOp.addi (val V xy.1 q) (val V xy.2 q))
        (IntOp.ori (IntOp.shli .host (val V xy.2 q) a) (IntOp.shrui .host (val V xy.2 q) b))) (fill_at _ q) (fill_at _ q)
  | key i j n s x' u e c v y' =>
    simp only [Part.writes, List.nodup_cons, List.mem_cons, List.not_mem_nil, not_or, not_false_eq_true, or_false, and_true,
      List.nodup_nil] at nd nx ny nk
    refine ⟨fun i => ?_, ?_, ?_⟩
    · simp only [Part.ops, StableHlo.after_cons, StableHlo.after_nil, val_nullary_ne, val_unary_ne, val_binary_ne, ne_eq,
        nk, not_false_eq_true]
      exact hk i
    · simp only [Part.ops, Part.out, StableHlo.after_cons, StableHlo.after_nil, val_nullary_ne, val_unary_ne, val_binary_ne, ne_eq,
        nd, nx, ny, nk, not_false_eq_true, val_binary, val_unary]
      exact congrArg₂ (· + ·) h0 ((fill_at _ q).trans (hk i))
    · simp only [Part.ops, Part.out, StableHlo.after_cons, StableHlo.after_nil, val_nullary_ne, val_unary_ne, val_binary_ne, ne_eq,
        nd, nx, ny, nk, not_false_eq_true, val_binary, val_unary, val_nullary]
      exact congrArg₂ (· + ·) (congrArg₂ (· + ·) h1 ((fill_at _ q).trans (hk j))) (fill_at _ q)

/-- The operations of the parts `ps`, the pair at first in the buffers `xy`. -/
def line (xy : Big × Big) : List Part → List (HloOp τ sig (Elt Ideal))
  | [] => []
  | P :: ps => P.ops xy ++ line P.out ps

/-- Every part of `ps` is short and apart. -/
def Fine (xy : Big × Big) : List Part → Prop
  | [] => True
  | P :: ps => P.short ∧ P.Apart xy ∧ Fine P.out ps

/-- Whether every part is short and apart is decidable. -/
instance decFine (xy : Big × Big) (ps : List Part) : Decidable (Fine xy ps) := by
  induction ps generalizing xy with
  | nil => exact isTrue trivial
  | cons P ps ih =>
    have h1 : Decidable P.short := by cases P <;> unfold Part.short <;> infer_instance
    have h2 : Decidable (P.Apart xy) := by unfold Part.Apart; infer_instance
    have h3 := ih P.out
    unfold Fine
    infer_instance

/-- The buffers that hold the pair after the parts `ps`. -/
def outs (xy : Big × Big) : List Part → Big × Big
  | [] => xy
  | P :: ps => outs P.out ps

/-- The pair after the parts `ps`. -/
def pairs (p : BitVec 32 × BitVec 32) : List Part → BitVec 32 × BitVec 32
  | [] => p
  | P :: ps => pairs (P.pair p) ps

/-- The parts `ps`, one after another, leave the pair that they should. -/
theorem line_holds {q : S20x16x100000.Idx} (ps : List Part) {V : Bufs} {xy : Big × Big} {p : BitVec 32 × BitVec 32}
    (hf : Fine xy ps) (h : Holds V q xy p) : Holds (StableHlo.after (line xy ps) V) q (outs xy ps) (pairs p ps) := by
  induction ps generalizing V xy p with
  | nil => exact h
  | cons P ps ih =>
    rw [line, StableHlo.after_append]
    exact ih hf.2.2 (P.step hf.1 hf.2.1 h)

/-- The twenty rounds and the five additions of key words, in order. -/
def parts : List Part :=
  [ .round 13#32 19#32 (.of main_call0_v6) (.of main_call0_c_0) (.of main_call0_v7) (.of main_call0_v8) (.of main_call0_c_1) (.of main_call0_v9) (.of main_call0_v10) (.of main_call0_v11) (.of main_call0_v12),
    .round 15#32 17#32 (.of main_call0_v13) (.of main_call0_c_2) (.of main_call0_v14) (.of main_call0_v15) (.of main_call0_c_3) (.of main_call0_v16) (.of main_call0_v17) (.of main_call0_v18) (.of main_call0_v19),
    .round 26#32 6#32 (.of main_call0_v20) (.of main_call0_c_4) (.of main_call0_v21) (.of main_call0_v22) (.of main_call0_c_5) (.of main_call0_v23) (.of main_call0_v24) (.of main_call0_v25) (.of main_call0_v26),
    .round 6#32 26#32 (.of main_call0_v27) (.of main_call0_c_6) (.of main_call0_v28) (.of main_call0_v29) (.of main_call0_c_7) (.of main_call0_v30) (.of main_call0_v31) (.of main_call0_v32) (.of main_call0_v33),
    .key 1 2 1#32 (.of main_call0_v34) (.of main_call0_v35) (.of main_call0_v36) (.of main_call0_v37) (.of main_call0_c_8) (.of main_call0_v38) (.of main_call0_v39),
    .round 17#32 15#32 (.of main_call0_v40) (.of main_call0_c_9) (.of main_call0_v41) (.of main_call0_v42) (.of main_call0_c_10) (.of main_call0_v43) (.of main_call0_v44) (.of main_call0_v45) (.of main_call0_v46),
    .round 29#32 3#32 (.of main_call0_v47) (.of main_call0_c_11) (.of main_call0_v48) (.of main_call0_v49) (.of main_call0_c_12) (.of main_call0_v50) (.of main_call0_v51) (.of main_call0_v52) (.of main_call0_v53),
    .round 16#32 16#32 (.of main_call0_v54) (.of main_call0_c_13) (.of main_call0_v55) (.of main_call0_v56) (.of main_call0_c_14) (.of main_call0_v57) (.of main_call0_v58) (.of main_call0_v59) (.of main_call0_v60),
    .round 24#32 8#32 (.of main_call0_v61) (.of main_call0_c_15) (.of main_call0_v62) (.of main_call0_v63) (.of main_call0_c_16) (.of main_call0_v64) (.of main_call0_v65) (.of main_call0_v66) (.of main_call0_v67),
    .key 2 0 2#32 (.of main_call0_v68) (.of main_call0_v69) (.of main_call0_v70) (.of main_call0_v71) (.of main_call0_c_17) (.of main_call0_v72) (.of main_call0_v73),
    .round 13#32 19#32 (.of main_call0_v74) (.of main_call0_c_18) (.of main_call0_v75) (.of main_call0_v76) (.of main_call0_c_19) (.of main_call0_v77) (.of main_call0_v78) (.of main_call0_v79) (.of main_call0_v80),
    .round 15#32 17#32 (.of main_call0_v81) (.of main_call0_c_20) (.of main_call0_v82) (.of main_call0_v83) (.of main_call0_c_21) (.of main_call0_v84) (.of main_call0_v85) (.of main_call0_v86) (.of main_call0_v87),
    .round 26#32 6#32 (.of main_call0_v88) (.of main_call0_c_22) (.of main_call0_v89) (.of main_call0_v90) (.of main_call0_c_23) (.of main_call0_v91) (.of main_call0_v92) (.of main_call0_v93) (.of main_call0_v94),
    .round 6#32 26#32 (.of main_call0_v95) (.of main_call0_c_24) (.of main_call0_v96) (.of main_call0_v97) (.of main_call0_c_25) (.of main_call0_v98) (.of main_call0_v99) (.of main_call0_v100) (.of main_call0_v101),
    .key 0 1 3#32 (.of main_call0_v102) (.of main_call0_v103) (.of main_call0_v104) (.of main_call0_v105) (.of main_call0_c_26) (.of main_call0_v106) (.of main_call0_v107),
    .round 17#32 15#32 (.of main_call0_v108) (.of main_call0_c_27) (.of main_call0_v109) (.of main_call0_v110) (.of main_call0_c_28) (.of main_call0_v111) (.of main_call0_v112) (.of main_call0_v113) (.of main_call0_v114),
    .round 29#32 3#32 (.of main_call0_v115) (.of main_call0_c_29) (.of main_call0_v116) (.of main_call0_v117) (.of main_call0_c_30) (.of main_call0_v118) (.of main_call0_v119) (.of main_call0_v120) (.of main_call0_v121),
    .round 16#32 16#32 (.of main_call0_v122) (.of main_call0_c_31) (.of main_call0_v123) (.of main_call0_v124) (.of main_call0_c_32) (.of main_call0_v125) (.of main_call0_v126) (.of main_call0_v127) (.of main_call0_v128),
    .round 24#32 8#32 (.of main_call0_v129) (.of main_call0_c_33) (.of main_call0_v130) (.of main_call0_v131) (.of main_call0_c_34) (.of main_call0_v132) (.of main_call0_v133) (.of main_call0_v134) (.of main_call0_v135),
    .key 1 2 4#32 (.of main_call0_v136) (.of main_call0_v137) (.of main_call0_v138) (.of main_call0_v139) (.of main_call0_c_35) (.of main_call0_v140) (.of main_call0_v141),
    .round 13#32 19#32 (.of main_call0_v142) (.of main_call0_c_36) (.of main_call0_v143) (.of main_call0_v144) (.of main_call0_c_37) (.of main_call0_v145) (.of main_call0_v146) (.of main_call0_v147) (.of main_call0_v148),
    .round 15#32 17#32 (.of main_call0_v149) (.of main_call0_c_38) (.of main_call0_v150) (.of main_call0_v151) (.of main_call0_c_39) (.of main_call0_v152) (.of main_call0_v153) (.of main_call0_v154) (.of main_call0_v155),
    .round 26#32 6#32 (.of main_call0_v156) (.of main_call0_c_40) (.of main_call0_v157) (.of main_call0_v158) (.of main_call0_c_41) (.of main_call0_v159) (.of main_call0_v160) (.of main_call0_v161) (.of main_call0_v162),
    .round 6#32 26#32 (.of main_call0_v163) (.of main_call0_c_42) (.of main_call0_v164) (.of main_call0_v165) (.of main_call0_c_43) (.of main_call0_v166) (.of main_call0_v167) (.of main_call0_v168) (.of main_call0_v169),
    .key 2 0 5#32 (.of main_call0_v170) (.of main_v26_0) (.of main_call0_v172) (.of main_call0_v173) (.of main_call0_c_44) (.of main_call0_v174) (.of main_v26_1) ]

/-- The buffers of the pair before the first round. -/
def start : Big × Big := (.of main_call0_v3, .of main_call0_v5)

/-- The operations before the first round. -/
abbrev thr0 : List (HloOp τ sig (Elt Ideal)) :=
  [ StableHlo.TRef.binary (.of main_v8 : StableHlo.TRef sig ⟨S_, .i32⟩) (.of main_v10 : StableHlo.TRef sig ⟨S_, .i32⟩) (.of main_call0_v0 : StableHlo.TRef sig ⟨S_, .i32⟩) xori
  , StableHlo.TRef.nullary (.of main_call0_c : StableHlo.TRef sig ⟨S_, .i32⟩) (constantI S_ 32 466688986#32)
  , StableHlo.TRef.binary (.of main_call0_v0 : StableHlo.TRef sig ⟨S_, .i32⟩) (.of main_call0_c : StableHlo.TRef sig ⟨S_, .i32⟩) (.of main_call0_v1 : StableHlo.TRef sig ⟨S_, .i32⟩) xori
  , StableHlo.TRef.unary (.of main_v8 : StableHlo.TRef sig ⟨S_, .i32⟩) (.of main_call0_v2 : StableHlo.TRef sig ⟨S20x16x100000, .i32⟩) (broadcastInDim S20x16x100000 ![] bcast_S_S20x16x100000)
  , StableHlo.TRef.binary (.of main_v25 : StableHlo.TRef sig ⟨S20x16x100000, .i32⟩) (.of main_call0_v2 : StableHlo.TRef sig ⟨S20x16x100000, .i32⟩) (.of main_call0_v3 : StableHlo.TRef sig ⟨S20x16x100000, .i32⟩) addi
  , StableHlo.TRef.unary (.of main_v10 : StableHlo.TRef sig ⟨S_, .i32⟩) (.of main_call0_v4 : StableHlo.TRef sig ⟨S20x16x100000, .i32⟩) (broadcastInDim S20x16x100000 ![] bcast_S_S20x16x100000)
  , StableHlo.TRef.binary (.of main_v24 : StableHlo.TRef sig ⟨S20x16x100000, .i32⟩) (.of main_call0_v4 : StableHlo.TRef sig ⟨S20x16x100000, .i32⟩) (.of main_call0_v5 : StableHlo.TRef sig ⟨S20x16x100000, .i32⟩) addi ]

/-- The stretch is what comes before the first round, then the parts. -/
theorem stretch : (hostOps0_1 : List (HloOp τ sig (Elt Ideal))) = thr0 ++ line start parts := rfl

/-- No part writes over what a later one reads. -/
theorem parts_fine : Fine start parts := by
  decide +kernel

variable (V : Bufs) (t : Fin 20) (b : Fin 16) (k : Fin 100000) (w : BitVec 32)

/-- The third key word is the exclusive or of the first two and a constant. -/
theorem thr0_key (k8 : rd V main_v8 ix0 = 0#32) (k10 : rd V main_v10 ix0 = 42#32) :
    StableHlo.after thr0 V (Proc.devRef .tc main_call0_v1) ix0 = 466689008#32 := by
  unfold rd at k8 k10
  after_reads_at
  rw [k8, k10]; rfl

/-- The pair before the first round. -/
theorem thr0_pair (k8 : rd V main_v8 ix0 = 0#32) (k10 : rd V main_v10 ix0 = 42#32)
    (h0 : rd V main_v25 (ix3 t b k) = 0#32) (h1 : rd V main_v24 (ix3 t b k) = w) :
    StableHlo.after thr0 V (Proc.devRef .tc main_call0_v3) (ix3 t b k) = (st0 w).1 ∧
    StableHlo.after thr0 V (Proc.devRef .tc main_call0_v5) (ix3 t b k) = (st0 w).2 := by
  unfold rd at k8 k10 h0 h1
  constructor
  · after_reads_at
    rw [k8, h0]; rfl
  · after_reads_at
    rw [k10, h1]; rfl

/-- The first two key words stay where they are. -/
theorem thr0_keep : StableHlo.after thr0 V (Proc.devRef .tc main_v8) ix0 = V (Proc.devRef .tc main_v8) ix0 ∧
    StableHlo.after thr0 V (Proc.devRef .tc main_v10) ix0 = V (Proc.devRef .tc main_v10) ix0 := by
  refine ⟨?_, ?_⟩ <;> after_reads_at

/-- The two words the rounds leave at an element. -/
theorem threefry (k8 : rd V main_v8 ix0 = 0#32) (k10 : rd V main_v10 ix0 = 42#32)
    (h0 : rd V main_v25 (ix3 t b k) = 0#32) (h1 : rd V main_v24 (ix3 t b k) = w) :
    StableHlo.after hostOps0_1 V (Proc.devRef .tc main_v26_0) (ix3 t b k) = (st20 w).1 ∧
    StableHlo.after hostOps0_1 V (Proc.devRef .tc main_v26_1) (ix3 t b k) = (st20 w).2 := by
  rw [stretch, StableHlo.after_append]
  have p := thr0_pair V t b k w k8 k10 h0 h1
  have k1 := thr0_key V k8 k10
  obtain ⟨e8, e10⟩ := thr0_keep V
  have s : Holds (StableHlo.after thr0 V) (ix3 t b k) start (st0 w) :=
    ⟨fun i => by
      match i with
      | 0 => exact e8.trans k8
      | 1 => exact e10.trans k10
      | 2 => exact k1, p.1, p.2⟩
  have e := line_holds parts parts_fine s
  exact ⟨e.fst, e.snd⟩

end Cert.ReferenceIdeal.Gen
end
-- ==== Proof.RefScore.lean ====
module

public import proofs.«01_k».proof.Proof.RefWord
public import proofs.«01_k».proof.Proof.Result

/-! The reference's flat indices, and the score of every element. -/

@[expose] public section
set_option maxRecDepth 100000
noncomputable section
namespace Cert.ReferenceIdeal.Gen
open Idealize.ShloMosaic Idealize.ShloMosaic.TcCoe Cert.Sampler

variable (V : Bufs) (t : Fin 20) (b : Fin 16) (k : Fin 100000)

/-- The key's first word. -/
theorem key_hi : StableHlo.after hostOps0 V (Proc.devRef .tc main_v8) ix0 = 0#32 := by
  after_reads_at
  after_reads_at
  rfl

/-- The key's second word. -/
theorem key_lo : StableHlo.after hostOps0 V (Proc.devRef .tc main_v10) ix0 = 42#32 := by
  after_reads_at
  after_reads_at
  rfl

/-- The low word of the flat index. -/
theorem flat_lo : StableHlo.after hostOps0 V (Proc.devRef .tc main_v24) (ix3 t b k) =
    BitVec.ofNat 32 ((16 * t + b) * 100000 + k) := by
  after_reads_at
  have ht := t.isLt
  have hb := b.isLt
  have hk := k.isLt
  apply BitVec.eq_of_toNat_eq
  simp only [IntOp.addi, IntOp.muli, BitVec.toNat_setWidth, BitVec.toNat_add, BitVec.toNat_mul, BitVec.toNat_ofNat]
  omega

/-- The high word of the flat index is zero. -/
theorem flat_hi : StableHlo.after hostOps0 V (Proc.devRef .tc main_v25) (ix3 t b k) = 0#32 := by
  after_reads_at
  have ht := t.isLt
  have hb := b.isLt
  have hk := k.isLt
  rw [IntOp.shrui, if_pos (by decide)]
  apply BitVec.eq_of_toNat_eq
  have e : (32 : ℕ) % 2 ^ 64 = 32 := rfl
  simp only [IntOp.addi, IntOp.muli, BitVec.ushiftRight_eq', e, BitVec.toNat_setWidth, BitVec.toNat_ushiftRight, BitVec.toNat_add, BitVec.toNat_mul, BitVec.toNat_ofNat, Nat.shiftRight_eq_div_pow]
  rw [Nat.mod_eq_of_lt (show t.val < 2 ^ 64 by omega), Nat.mod_eq_of_lt (show b.val < 2 ^ 64 by omega), Nat.mod_eq_of_lt (show k.val < 2 ^ 64 by omega)]
  have e1 : 1600000 % 2 ^ 64 * t.val % 2 ^ 64 = 1600000 * t.val := by omega
  have e2 : 100000 % 2 ^ 64 * b.val % 2 ^ 64 = 100000 * b.val := by omega
  have e3 : 1 % 2 ^ 64 * k.val % 2 ^ 64 = k.val := by omega
  rw [e1, e2, e3, Nat.mod_eq_of_lt (show 1600000 * t.val + 100000 * b.val < 2 ^ 64 by omega),
    Nat.mod_eq_of_lt (show 1600000 * t.val + 100000 * b.val + k.val < 2 ^ 64 by omega),
    Nat.div_eq_of_lt (show 1600000 * t.val + 100000 * b.val + k.val < 2 ^ 32 by omega)]

/-- The score of an element: its logit plus its Gumbel sample. -/
theorem score (w : BitVec 32) (h0 : rd V main_v26_0 (ix3 t b k) = (st20 w).1) (h1 : rd V main_v26_1 (ix3 t b k) = (st20 w).2) :
    StableHlo.after hostOps0_2 V (Proc.devRef .tc main_v45) (ix3 t b k) = (show EReal from rd V main_arg0 (ix3 t b k)) + gum (word w) := by
  unfold rd at *
  after_reads_at
  rw [h0, h1, IntOp.shrui, if_pos (by decide)]
  rfl

end Cert.ReferenceIdeal.Gen
end
-- ==== Proof.RefLoop.lean ====
module

public import proofs.«01_k».proof.Proof.RefScore
public import proofs.«01_k».proof.Proof.Loss
public import Idealize.ShloMosaic.Lib.WordCmp

/-! The reference's loop over the steps of an episode: the discounted sums, found from the last reward to the first. -/

@[expose] public section
set_option maxRecDepth 100000
noncomputable section
namespace Cert.ReferenceIdeal.Gen
open Idealize.ShloMosaic Idealize.ShloMosaic.TcCoe Cert.Sampler

/-- One entry sliced out of twenty, at a place among them. -/
theorem slice_one (x : FVec Ideal S20 .f32) (s : Fin 1 → Int) (k : Fin 20) (hs : ∀ a, s a = (k.val : Int)) (j : S1.Idx) :
    Host.dynamicSlice S1 x s sliceFits_S20_S1 j = x (ix1 k) := by
  rw [WordCmp.dynamicSlice_eq_extract S1 x s sliceFits_S20_S1 (fun _ => k.val)
    ⟨rfl, fun a => by fin_cases a; have := k.isLt; show k.val + 1 ≤ 20; omega⟩ hs]
  show x _ = x _
  congr 1
  funext a
  fin_cases a
  apply Fin.ext
  show k.val + (j 0).val = k.val
  have : (j 0).val < 1 := (j 0).isLt
  omega

/-- One entry written among twenty: that entry is the new one, the others are as they were. -/
theorem update_one (x : FVec Ideal S20 .f32) (u : FVec Ideal S1 .f32) (s : Fin 1 → Int) (k : Fin 20) (hs : ∀ a, s a = (k.val : Int))
    (M : EReal) (hu : ∀ j, u j = M) (j : Fin 20) :
    Host.dynamicUpdateSlice x u s updateFits_S20_S1 (ix1 j) = if j = k then M else x (ix1 j) := by
  rw [WordCmp.dynamicUpdateSlice_eq_update x u s updateFits_S20_S1 (fun _ => k.val)
    ⟨rfl, fun a => by fin_cases a; have := k.isLt; show k.val + 1 ≤ 20; omega⟩ hs]
  unfold updateSlice
  by_cases h : j = k
  · subst h
    rw [if_pos rfl, dif_pos (fun a => by fin_cases a; exact ⟨Nat.le_refl j.val, Nat.lt_succ_self j.val⟩)]
    exact hu _
  · rw [if_neg h, dif_neg]
    intro hh
    have h0 : k.val ≤ j.val ∧ j.val < k.val + 1 := hh 0
    exact h (Fin.ext (by omega))

/-- The loop's buffers after `k` steps: the rewards last to first, the counter, the sum so far, and the sums found. -/
structure Steps (r : Fin 20 → EReal) (k : ℕ) (X : Bufs) : Prop where
  rew : ∀ j : Fin 20, rd X main_v54_0 (ix1 j) = r j.rev
  ctr : rd X main_v54_1 = fun _ => BitVec.ofNat 32 k
  acc : ∀ i, rd X main_v54_2 i = discC r k
  out : ∀ j : Fin 20, rd X main_v54_3 (ix1 j) = if j.val < k then discC r (j.val + 1) else 0

/-- The buffers at the loop's entry. -/
theorem steps_zero (V : Bufs) (r : Fin 20 → EReal) (h : ∀ j : Fin 20, rd V main_arg1 (ix1 j) = r j) :
    Steps r 0 (StableHlo.after hostOps0_7 V) := by
  refine ⟨fun j => ?_, ?_, fun i => ?_, fun j => ?_⟩
  · rw [← h]; unfold rd; after_reads_at
    show V (Proc.devRef .tc main_arg1) _ = _
    congr 1
    funext a
    fin_cases a
    rfl
  · unfold rd; after_reads_simp; rfl
  · unfold rd; after_reads_simp
    exact Ideal.ofBits_zero_f32
  · rw [if_neg (by omega)]
    unfold rd; after_reads_at
    exact Ideal.ofBits_zero_f32

/-- The sum after one more step. -/
theorem step_sum (X : Bufs) (r : Fin 20 → EReal) (k : ℕ) (hk : k < 20) (h : Steps r k X) (i : S_.Idx) :
    Value.res_main_while0b_v68 X i = discC r (k + 1) := by
  have hc := h.ctr
  unfold rd at hc
  have hi : (BitVec.ofNat 32 k).toInt = (k : Int) := WordCmp.toInt_ofNat_of_lt (by omega)
  have e : shapeCast S_ (Host.dynamicSlice S1 (X (Proc.devRef .tc main_v54_0)) (fun k =>
      (((![X (Proc.devRef .tc main_v54_1)] : Fin 1 → (⟨S_, .i32⟩ : BufTy).Contents (Elt Ideal))) k (Shape.Idx.first h_S_)).toInt)
      sliceFits_S20_S1) shapeCasts_S1_S_ i = r ⟨19 - k, by omega⟩ := by
    refine (slice_one (X (Proc.devRef .tc main_v54_0)) _ ⟨k, hk⟩ (fun a => ?_) _).trans ((h.rew ⟨k, hk⟩).trans ?_)
    · fin_cases a
      show (X (Proc.devRef .tc main_v54_1) (Shape.Idx.first h_S_)).toInt = _
      rw [hc]
      exact hi
    · exact congrArg r (Fin.ext (show 20 - (k + 1) = 19 - k by omega))
  have ea : X (Proc.devRef .tc main_v54_2) i = discC r k := h.acc i
  unfold Value.res_main_while0b_v68
  show (show EReal from X (Proc.devRef .tc main_v54_2) i) * Ideal.ofBits .f32 0x3F7D70A4#32 + (show EReal from shapeCast S_ _ shapeCasts_S1_S_ i) = _
  rw [e, ea, discC, dif_pos hk]

/-- One step of the loop's body. -/
theorem steps_succ (X : Bufs) (r : Fin 20 → EReal) (k : ℕ) (hk : k < 20) (h : Steps r k X) :
    Steps r (k + 1) (StableHlo.afterL Value.bodyI (StableHlo.after Value.condOps X)) := by
  have hi : (BitVec.ofNat 32 k).toInt = (k : Int) := WordCmp.toInt_ofNat_of_lt (by omega)
  have hA := Value.trip_agree X
  have g0 := (hA main_v54_0 (by decide)).trans (Value.STEP_main_v54_0 X)
  have g1 := (hA main_v54_1 (by decide)).trans (Value.STEP_main_v54_1 X)
  have g2 := (hA main_v54_2 (by decide)).trans (Value.STEP_main_v54_2 X)
  have g3 := (hA main_v54_3 (by decide)).trans (Value.STEP_main_v54_3 X)
  have hc := h.ctr
  unfold rd at hc
  refine ⟨fun j => ?_, ?_, fun i => ?_, fun j => ?_⟩
  · exact (congrFun g0 _).trans (h.rew j)
  · refine g1.trans ?_
    unfold Value.step_main_v54_1
    rw [hc]
    funext i
    show BitVec.ofNat 32 k + 1#32 = BitVec.ofNat 32 (k + 1)
    rw [BitVec.ofNat_add]
  · exact (congrFun g2 _).trans (step_sum X r k hk h i)
  · refine (congrFun g3 _).trans ?_
    unfold Value.step_main_v54_3
    refine (update_one _ _ _ ⟨k, hk⟩ (fun a => ?_) (discC r (k + 1)) (fun i => step_sum X r k hk h _) j).trans ?_
    · fin_cases a
      show (X (Proc.devRef .tc main_v54_1) (Shape.Idx.first h_S_)).toInt = _
      rw [hc]
      exact hi
    · by_cases hj : j = ⟨k, hk⟩
      · subst hj
        rw [if_pos rfl, if_pos (Nat.lt_succ_self k)]
      · rw [if_neg hj]
        refine (h.out j).trans ?_
        have : j.val ≠ k := fun e => hj (Fin.ext e)
        by_cases h2 : j.val < k
        · rw [if_pos h2, if_pos (by omega)]
        · rw [if_neg h2, if_neg (by omega)]

/-- The loop's buffers after any number of its steps. -/
theorem steps_all (W : Dev nD → Bufs) (c : Dev nD) (r : Fin 20 → EReal) (h : Steps r 0 (W c)) :
    ∀ k, k ≤ 20 → Steps r k (StableHlo.atTrip Value.condOps Value.bodyI W k c)
  | 0, _ => h
  | k + 1, hk => steps_succ _ r k (by omega) (steps_all W c r h k (by omega))

end Cert.ReferenceIdeal.Gen
end
-- ==== Proof.ArgMax.lean ====
module

public import proofs.«01_k».proof.Proof.RefScore

/-! The reference's argmax: the first column with the largest score. -/

@[expose] public section
set_option maxRecDepth 100000
noncomputable section
namespace Cert.ReferenceIdeal.Gen
open Idealize.ShloMosaic Idealize.ShloMosaic.TcCoe Cert.Sampler

/-- A pair of a score and a column is at least as good as another: its score is larger, or equal and its column not later. -/
def Beats (p q : EReal × BitVec 32) : Prop := q.1 < p.1 ∨ (q.1 = p.1 ∧ p.2.toInt ≤ q.2.toInt)

/-- A pair is as good as itself. -/
theorem Beats.refl (p : EReal × BitVec 32) : Beats p p := Or.inr ⟨rfl, le_refl _⟩

/-- Being as good passes on. -/
theorem Beats.trans {p q r : EReal × BitVec 32} (h : Beats p q) (h' : Beats q r) : Beats p r := by
  rcases h with h | ⟨h, h2⟩ <;> rcases h' with h' | ⟨h', h2'⟩
  · exact Or.inl (h'.trans h)
  · exact Or.inl (h' ▸ h)
  · exact Or.inl (h ▸ h')
  · exact Or.inr ⟨h'.trans h, h2.trans h2'⟩

/-- The reducer keeps the first pair where it is strictly better, else the second. -/
theorem reducer_eq (p q : EReal × BitVec 32) :
    reducer_argmax_f32_i32 (F := Ideal) p q = if q.1 < p.1 ∨ (p.1 = q.1 ∧ p.2.toInt < q.2.toInt) then p else q := by
  obtain ⟨x, i⟩ := p
  obtain ⟨y, j⟩ := q
  unfold reducer_argmax_f32_i32
  simp only [Ideal.cmpf_def, Ideal.cmp, IntOp.cmpi, IntOp.ori, IntOp.andi, Scalar.select]
  rcases lt_trichotomy x y with h | h | h
  · simp [h, h.ne, h.not_gt, not_lt.2 h.le]
  · subst h
    by_cases hs : i.toInt < j.toInt <;> simp [hs, BitVec.slt]
  · simp [h, h.ne', h.ne]

/-- The reducer's result is one of its operands. -/
theorem reducer_mem (p q : EReal × BitVec 32) :
    reducer_argmax_f32_i32 (F := Ideal) p q = p ∨ reducer_argmax_f32_i32 (F := Ideal) p q = q := by
  rw [reducer_eq]; split
  · exact Or.inl rfl
  · exact Or.inr rfl

/-- The reducer's result is at least as good as both operands. -/
theorem reducer_beats (p q : EReal × BitVec 32) :
    Beats (reducer_argmax_f32_i32 (F := Ideal) p q) p ∧ Beats (reducer_argmax_f32_i32 (F := Ideal) p q) q := by
  rw [reducer_eq]
  split
  · rename_i h
    refine ⟨Beats.refl _, ?_⟩
    rcases h with h | ⟨h, h2⟩
    · exact Or.inl h
    · exact Or.inr ⟨h.symm, h2.le⟩
  · rename_i h
    refine ⟨?_, Beats.refl _⟩
    push Not at h
    rcases h.1.lt_or_eq with h1 | h1
    · exact Or.inl h1
    · exact Or.inr ⟨h1, h.2 h1⟩

/-- A fold of the reducer ends at one of the pairs, at least as good as all of them. -/
theorem foldl_best (l : List (EReal × BitVec 32)) (p : EReal × BitVec 32) :
    (l.foldl (reducer_argmax_f32_i32 (F := Ideal)) p = p ∨ l.foldl (reducer_argmax_f32_i32 (F := Ideal)) p ∈ l) ∧
    Beats (l.foldl (reducer_argmax_f32_i32 (F := Ideal)) p) p ∧
    ∀ q ∈ l, Beats (l.foldl (reducer_argmax_f32_i32 (F := Ideal)) p) q := by
  induction l generalizing p with
  | nil => exact ⟨Or.inl rfl, Beats.refl _, fun q h => absurd h (List.not_mem_nil)⟩
  | cons a l ih =>
    rw [List.foldl_cons]
    obtain ⟨h1, h2, h3⟩ := ih (reducer_argmax_f32_i32 (F := Ideal) p a)
    obtain ⟨b1, b2⟩ := reducer_beats p a
    refine ⟨?_, h2.trans b1, fun q hq => ?_⟩
    · rcases h1 with h1 | h1
      · rcases reducer_mem p a with e | e
        · exact Or.inl (h1.trans e)
        · exact Or.inr (List.mem_cons.2 (Or.inl (h1.trans e)))
      · exact Or.inr (List.mem_cons_of_mem _ h1)
    · rcases List.mem_cons.1 hq with rfl | hq
      · exact h2.trans b2
      · exact h3 q hq

/-- Where the pairs are the columns with their scores, the fold from (−∞, 0) ends at the first best column. -/
theorem foldl_first (l : List (EReal × BitVec 32)) (y : ℕ → EReal)
    (hl : ∀ p, p ∈ l ↔ ∃ c < 100000, p = (y c, BitVec.ofNat 32 c)) :
    ∃ a, IsFirst y a ∧ (l.foldl (reducer_argmax_f32_i32 (F := Ideal)) (⊥, 0#32)).2 = BitVec.ofNat 32 a := by
  obtain ⟨h1, h2, h3⟩ := foldl_best l (⊥, 0#32)
  generalize l.foldl (reducer_argmax_f32_i32 (F := Ideal)) (⊥, 0#32) = p at h1 h2 h3 ⊢
  rcases h1 with rfl | h1
  · refine ⟨0, ⟨by omega, fun c hc => ?_, fun c hc => absurd hc (Nat.not_lt_zero _)⟩, rfl⟩
    rcases h3 _ ((hl _).2 ⟨c, hc, rfl⟩) with h | ⟨h, _⟩
    · exact absurd h not_lt_bot
    · exact (show y c = ⊥ from h) ▸ bot_le
  · obtain ⟨a, ha, rfl⟩ := (hl _).1 h1
    refine ⟨a, ⟨ha, fun c hc => ?_, fun c hc => ?_⟩, rfl⟩
    · rcases h3 _ ((hl _).2 ⟨c, hc, rfl⟩) with h | ⟨h, _⟩
      · exact le_of_lt h
      · exact le_of_eq h
    · rcases h3 _ ((hl _).2 ⟨c, hc.trans ha, rfl⟩) with h | ⟨_, h⟩
      · exact h
      · have h : (BitVec.ofNat 32 a).toInt ≤ (BitVec.ofNat 32 c).toInt := h
        rw [toInt_col ha.le, toInt_col (hc.trans ha).le] at h
        omega

/-- The elements an argmax along the last axis folds at a row are the row's. -/
theorem mem_fiber (x : FVec Ideal S20x16x100000 .f32) (t : Fin 20) (b : Fin 16) (p : EReal × BitVec 32) :
    p ∈ Host.argReduceFiber x (iotaInDim S20x16x100000 32 2) reducesTo_S20x16x100000_S20x16_d2 (ix2 t b) ↔
      ∃ c < 100000, p = (col (fun k => x (ix3 t b k)) c, BitVec.ofNat 32 c) := by
  have hd : ∀ (t' : Fin 20) (b' : Fin 16) (k : Fin 100000),
      reducesTo_S20x16x100000_S20x16_d2.drop (ix3 t' b' k) = ix2 t' b' := by
    intro t' b' k
    funext a
    fin_cases a
    · exact Fin.ext (Shape.ReducesTo.drop_apply_val reducesTo_S20x16x100000_S20x16_d2 (ix3 t' b' k) 0)
    · exact Fin.ext (Shape.ReducesTo.drop_apply_val reducesTo_S20x16x100000_S20x16_d2 (ix3 t' b' k) 1)
  rw [Host.argReduceFiber]
  simp only [List.mem_map, List.mem_filter, List.mem_finRange, true_and, decide_eq_true_eq]
  constructor
  · rintro ⟨n, hn, rfl⟩
    generalize S20x16x100000.rowMajor.symm n = i at hn ⊢
    obtain ⟨t', b', k, rfl⟩ : ∃ (t' : Fin 20) (b' : Fin 16) (k : Fin 100000), i = ix3 t' b' k := ⟨i 0, i 1, i 2, eq_ix3 i⟩
    rw [hd] at hn
    have e1 : t' = t := congrFun hn 0
    have e2 : b' = b := congrFun hn 1
    subst e1 e2
    exact ⟨k.val, k.isLt, by rw [col, dif_pos k.isLt]; rfl⟩
  · rintro ⟨c, hc, rfl⟩
    refine ⟨S20x16x100000.rowMajor (ix3 t b ⟨c, hc⟩), ?_, ?_⟩
    · rw [Equiv.symm_apply_apply, hd]
    · rw [Equiv.symm_apply_apply, col, dif_pos hc]; rfl

/-- The reference's action of a row is the first column with the largest score. -/
theorem argmax_first (V : Bufs) (t : Fin 20) (b : Fin 16) :
    ∃ a, IsFirst (col (fun k => rd V main_v45 (ix3 t b k))) a ∧
      StableHlo.after hostOps0_3 V (Proc.devRef .tc main_v46) (ix2 t b) = BitVec.ofNat 32 a := by
  unfold rd
  after_reads_simp
  simp -implicitDefEqProofs only [StableHlo.TRef.toBuf, StableHlo.TRef.ofBuf, cast_cast, cast_eq]
  rw [Ideal.argReduce_eq_reduce2, Host.reduce2_eq_foldl_fiber]
  have h := foldl_first _ _ (mem_fiber (V (Proc.devRef .tc main_v45)) t b)
  rw [← ninf] at h
  exact h

end Cert.ReferenceIdeal.Gen
end
-- ==== Proof.RefSoftmax.lean ====
module

public import proofs.«01_k».proof.Proof.ArgMax

/-! The reference's log-softmax, read in four parts. -/

@[expose] public section
set_option maxRecDepth 100000
noncomputable section
namespace Cert.ReferenceIdeal.Gen
open Idealize.ShloMosaic Idealize.ShloMosaic.TcCoe Cert.Sampler

section Parts
variable {F : FTy → Type} [FloatOps F]

/-- Part 0 of the log-softmax. -/
abbrev lsm0 : List (HloOp τ sig (Elt F)) :=
  [ StableHlo.TRef.nullary (.of main_call2_cst : StableHlo.TRef sig ⟨S_, .f32⟩) (constant S_ .f32 0xFF800000#32)
  , StableHlo.TRef.binary (.of main_arg0 : StableHlo.TRef sig ⟨S20x16x100000, .f32⟩) (.of main_call2_cst : StableHlo.TRef sig ⟨S_, .f32⟩) (.of main_call2_v0 : StableHlo.TRef sig ⟨S20x16, .f32⟩) (fun x v => Host.reduce FloatOps.maximumf x v reducesTo_S20x16x100000_S20x16_d2 h_S_) ]

/-- Part 1 of the log-softmax. -/
abbrev lsm1 : List (HloOp τ sig (Elt F)) :=
  [ StableHlo.TRef.nullary (.of main_call2_cst_0 : StableHlo.TRef sig ⟨S_, .f32⟩) (constant S_ .f32 0xFF800000#32)
  , StableHlo.TRef.unary (.of main_call2_cst_0 : StableHlo.TRef sig ⟨S_, .f32⟩) (.of main_call2_v1 : StableHlo.TRef sig ⟨S20x16, .f32⟩) (broadcastInDim S20x16 ![] bcast_S_S20x16)
  , StableHlo.TRef.binary (.of main_call2_v1 : StableHlo.TRef sig ⟨S20x16, .f32⟩) (.of main_call2_v0 : StableHlo.TRef sig ⟨S20x16, .f32⟩) (.of main_call2_v2 : StableHlo.TRef sig ⟨S20x16, .f32⟩) maximumf
  , StableHlo.TRef.unary (.of main_call2_v2 : StableHlo.TRef sig ⟨S20x16, .f32⟩) (.of main_call2_v3 : StableHlo.TRef sig ⟨S20x16x1, .f32⟩) (broadcastInDim S20x16x1 ![0, 1] bcast_S20x16_S20x16x1_0_1)
  , StableHlo.TRef.unary (.of main_call2_v3 : StableHlo.TRef sig ⟨S20x16x1, .f32⟩) (.of main_call2_v4 : StableHlo.TRef sig ⟨S20x16x100000, .f32⟩) (broadcastInDim S20x16x100000 ![0, 1, 2] bcast_S20x16x1_S20x16x100000_0_1_2)
  , StableHlo.TRef.binary (.of main_arg0 : StableHlo.TRef sig ⟨S20x16x100000, .f32⟩) (.of main_call2_v4 : StableHlo.TRef sig ⟨S20x16x100000, .f32⟩) (.of main_call2_v5 : StableHlo.TRef sig ⟨S20x16x100000, .f32⟩) subf
  , StableHlo.TRef.unary (.of main_call2_v5 : StableHlo.TRef sig ⟨S20x16x100000, .f32⟩) (.of main_call2_v6 : StableHlo.TRef sig ⟨S20x16x100000, .f32⟩) Host.exp ]

/-- Part 2 of the log-softmax. -/
abbrev lsm2 : List (HloOp τ sig (Elt F)) :=
  [ StableHlo.TRef.nullary (.of main_call2_cst_1 : StableHlo.TRef sig ⟨S_, .f32⟩) (constant S_ .f32 0x00000000#32)
  , StableHlo.TRef.binary (.of main_call2_v6 : StableHlo.TRef sig ⟨S20x16x100000, .f32⟩) (.of main_call2_cst_1 : StableHlo.TRef sig ⟨S_, .f32⟩) (.of main_call2_v7 : StableHlo.TRef sig ⟨S20x16, .f32⟩) (fun x v => Host.reduceAdd x v reducesTo_S20x16x100000_S20x16_d2 h_S_) ]

/-- Part 3 of the log-softmax. -/
abbrev lsm3 : List (HloOp τ sig (Elt F)) :=
  [ StableHlo.TRef.unary (.of main_call2_v7 : StableHlo.TRef sig ⟨S20x16, .f32⟩) (.of main_call2_v8 : StableHlo.TRef sig ⟨S20x16x1, .f32⟩) (broadcastInDim S20x16x1 ![0, 1] bcast_S20x16_S20x16x1_0_1)
  , StableHlo.TRef.unary (.of main_call2_v8 : StableHlo.TRef sig ⟨S20x16x1, .f32⟩) (.of main_call2_v9 : StableHlo.TRef sig ⟨S20x16x1, .f32⟩) Host.log
  , StableHlo.TRef.unary (.of main_call2_v9 : StableHlo.TRef sig ⟨S20x16x1, .f32⟩) (.of main_call2_v10 : StableHlo.TRef sig ⟨S20x16x100000, .f32⟩) (broadcastInDim S20x16x100000 ![0, 1, 2] bcast_S20x16x1_S20x16x100000_0_1_2)
  , StableHlo.TRef.binary (.of main_call2_v5 : StableHlo.TRef sig ⟨S20x16x100000, .f32⟩) (.of main_call2_v10 : StableHlo.TRef sig ⟨S20x16x100000, .f32⟩) (.of main_v47 : StableHlo.TRef sig ⟨S20x16x100000, .f32⟩) subf ]

/-- The log-softmax is its parts, one after another. -/
theorem lsm_split : (hostOps0_4 : List (HloOp τ sig (Elt F))) = lsm0 ++ (lsm1 ++ (lsm2 ++ lsm3)) := rfl

end Parts

variable (V : Bufs) (t : Fin 20) (b : Fin 16)

/-- A row's largest entry. -/
theorem lsm0_max : StableHlo.after (lsm0 (F := Ideal)) V (Proc.devRef .tc main_call2_v0) (ix2 t b) =
    Finset.fold max (Ideal.ofBits .f32 4286578688#32) (fun k => rd V main_arg0 (ix3 t b k)) Finset.univ := by
  unfold rd
  after_reads_at

/-- The first part leaves the logits. -/
theorem lsm0_keep (k : Fin 100000) : StableHlo.after (lsm0 (F := Ideal)) V (Proc.devRef .tc main_arg0) (ix3 t b k) = V (Proc.devRef .tc main_arg0) (ix3 t b k) := by
  after_reads_at

/-- An entry less its row's largest. -/
theorem lsm1_shift (k : Fin 100000) (x M : EReal) (h : rd V main_call2_v0 (ix2 t b) = M) (hx : rd V main_arg0 (ix3 t b k) = x) :
    StableHlo.after (lsm1 (F := Ideal)) V (Proc.devRef .tc main_call2_v5) (ix3 t b k) = x - M := by
  unfold rd at *
  after_reads_at
  rw [h, hx, ninf, max_eq_right bot_le]

/-- The exponential of an entry less its row's largest. -/
theorem lsm1_exp (k : Fin 100000) (x M : EReal) (h : rd V main_call2_v0 (ix2 t b) = M) (hx : rd V main_arg0 (ix3 t b k) = x) :
    StableHlo.after (lsm1 (F := Ideal)) V (Proc.devRef .tc main_call2_v6) (ix3 t b k) = Ideal.exp (x - M) := by
  unfold rd at *
  after_reads_at
  rw [h, hx, ninf, max_eq_right bot_le]

/-- The sum of a row's exponentials. -/
theorem lsm2_sum : StableHlo.after (lsm2 (F := Ideal)) V (Proc.devRef .tc main_call2_v7) (ix2 t b) =
    Finset.sum (M := EReal) Finset.univ fun k : Fin 100000 => rd V main_call2_v6 (ix3 t b k) := by
  unfold rd
  after_reads_at

/-- The third part leaves the entries less their rows' largest. -/
theorem lsm2_keep (k : Fin 100000) : StableHlo.after (lsm2 (F := Ideal)) V (Proc.devRef .tc main_call2_v5) (ix3 t b k) = V (Proc.devRef .tc main_call2_v5) (ix3 t b k) := by
  after_reads_at

/-- An entry less its row's largest, less the logarithm of the row's sum. -/
theorem lsm3_log (k : Fin 100000) (d S : EReal) (hd : rd V main_call2_v5 (ix3 t b k) = d) (h : rd V main_call2_v7 (ix2 t b) = S) :
    StableHlo.after (lsm3 (F := Ideal)) V (Proc.devRef .tc main_v47) (ix3 t b k) = d - Ideal.log S := by
  unfold rd at *
  after_reads_at
  rw [hd, h]

/-- A row's largest entry is the largest over its columns. -/
theorem rowMax_col (x : Fin 100000 → EReal) : Finset.fold max ⊥ x Finset.univ = rowMax (col x) := by
  rw [fold_max_sup, rowMax]
  apply le_antisymm
  · refine Finset.sup_le fun k _ => ?_
    have h := Finset.le_sup (f := col x) (Finset.mem_range.2 k.isLt)
    rwa [col, dif_pos k.isLt] at h
  · refine Finset.sup_le fun c hc => ?_
    rw [col, dif_pos (Finset.mem_range.1 hc)]
    exact Finset.le_sup (f := x) (Finset.mem_univ _)

/-- A row's sum of exponentials is the sum over its columns. -/
theorem rowSum_col (x : Fin 100000 → EReal) (M : EReal) : (∑ k : Fin 100000, Ideal.exp (x k - M)) = rowSum M (col x) := by
  rw [rowSum, ← Fin.sum_univ_eq_sum_range (fun c => Ideal.exp (col x c - M))]
  refine Finset.sum_congr rfl fun k _ => ?_
  rw [col, dif_pos k.isLt]

/-- The log-softmax of a row at a column. -/
theorem logSoftmax (k : Fin 100000) : StableHlo.after hostOps0_4 V (Proc.devRef .tc main_v47) (ix3 t b k) =
    rowLp (col fun k => rd V main_arg0 (ix3 t b k)) k := by
  rw [lsm_split]
  simp only [StableHlo.after_append]
  have hM := lsm0_max V t b
  rw [ninf] at hM
  have hx := fun k => lsm0_keep V t b k
  generalize StableHlo.after (lsm0 (F := Ideal)) V = V1 at hM hx ⊢
  have h5 := lsm1_shift V1 t b k _ _ hM (hx k)
  have h6 := fun k => lsm1_exp V1 t b k _ _ hM (hx k)
  generalize StableHlo.after (lsm1 (F := Ideal)) V1 = V2 at h5 h6 ⊢
  have h7 := (lsm2_sum V2 t b).trans (Finset.sum_congr (M := EReal) rfl fun k _ => h6 k)
  have h5' := (lsm2_keep V2 t b k).trans h5
  generalize StableHlo.after (lsm2 (F := Ideal)) V2 = V3 at h7 h5' ⊢
  refine (lsm3_log V3 t b k _ _ h5' h7).trans ?_
  rw [rowSum_col, rowMax_col (fun k => rd V main_arg0 (ix3 t b k))]
  rw [rowLp, col, dif_pos k.isLt]

end Cert.ReferenceIdeal.Gen
end
-- ==== Proof.RefLp.lean ====
module

public import proofs.«01_k».proof.Proof.RefSoftmax

/-! The reference's lookup of the log-softmax at every row's action, and the sums over each step's rows. -/

@[expose] public section
set_option maxRecDepth 100000
noncomputable section
namespace Cert.ReferenceIdeal.Gen
open Idealize.ShloMosaic Idealize.ShloMosaic.TcCoe Cert.Sampler

variable (V : Bufs) (t : Fin 20) (b : Fin 16)

/-- The actions as the indices of the lookup. -/
theorem index_of : StableHlo.after hostOps0_5 V (Proc.devRef .tc main_v48) (ix3 t b 0) = rd V main_v46 (ix2 t b) := by
  unfold rd
  after_reads_at

/-- The lookup reads a row's entry at the row's index, where that is a column. -/
theorem gather_at (x : FVec Ideal S20x16x100000 .f32) (idx : IVec S20x16x1x1 32) (t : Fin 20) (b : Fin 16) (a : Fin 100000)
    (h : idx (ix4 t b 0 0) = BitVec.ofNat 32 a.val) :
    Host.gather gather_S20x16x100000_S20x16x1x1_S20x16x1_n_2_01_01_2_3_111 x idx (ix3 t b 0) = x (ix3 t b a) := by
  unfold Host.gather
  congr 1
  have hk : ∀ c : Fin 3, c ∉ gather_S20x16x100000_S20x16x1x1_S20x16x1_n_2_01_01_2_3_111.sKept := by decide
  have h0 : (0 : Fin 3) ∈ gather_S20x16x100000_S20x16x1x1_S20x16x1_n_2_01_01_2_3_111.operandBatchingDims := by decide
  have h1 : (1 : Fin 3) ∈ gather_S20x16x100000_S20x16x1x1_S20x16x1_n_2_01_01_2_3_111.operandBatchingDims := by decide
  have h2 : (2 : Fin 3) ∉ gather_S20x16x100000_S20x16x1x1_S20x16x1_n_2_01_01_2_3_111.operandBatchingDims := by decide
  have h3 : (2 : Fin 3) ∈ gather_S20x16x100000_S20x16x1x1_S20x16x1_n_2_01_01_2_3_111.startIndexMap := by decide
  funext c
  apply Fin.ext
  unfold GatherDims.operandIdx
  dsimp only
  rw [GatherDims.offCoord_eq_zero _ _ _ (hk c)]
  fin_cases c
  · show GatherDims.start _ _ _ 0 + GatherDims.batchCoord _ _ 0 + 0 = t.val
    rw [GatherDims.start_batching _ _ _ _ h0]
    show 0 + t.val + 0 = t.val
    omega
  · show GatherDims.start _ _ _ 1 + GatherDims.batchCoord _ _ 1 + 0 = b.val
    rw [GatherDims.start_batching _ _ _ _ h1]
    show 0 + b.val + 0 = b.val
    omega
  · show GatherDims.start _ _ _ 2 + GatherDims.batchCoord _ _ 2 + 0 = a.val
    rw [GatherDims.batchCoord_eq_zero _ _ _ h2, GatherDims.start, dif_pos h3]
    have e : GatherDims.siIdx gather_S20x16x100000_S20x16x1x1_S20x16x1_n_2_01_01_2_3_111 (ix3 t b 0)
        ⟨List.idxOf 2 gather_S20x16x100000_S20x16x1x1_S20x16x1_n_2_01_01_2_3_111.startIndexMap, List.idxOf_lt_length_iff.2 h3⟩ = ix4 t b 0 0 := by
      funext d
      fin_cases d <;> rfl
    rw [e, h, toInt_col a.isLt.le]
    show min a.val (100000 - 1) + 0 + 0 = a.val
    have := a.isLt
    omega

/-- The lookup at an action. -/
theorem lookup (a : Fin 100000) (h : rd V main_v48 (ix3 t b 0) = BitVec.ofNat 32 a.val) :
    StableHlo.after hostOps0_6 V (Proc.devRef .tc main_v49) (ix3 t b 0) = rd V main_v47 (ix3 t b a) := by
  unfold rd at *
  after_reads_at
  rw [h]
  have ha := a.isLt
  have e := toInt_col (a := a.val) (by omega)
  have h0 : IntOp.cmpi CmpIPredicate.slt (BitVec.ofNat 32 a.val) 0#32 = 0#1 := by
    rw [IntOp.cmpi, BitVec.slt, e, show (0#32 : BitVec 32).toInt = 0 from rfl, decide_eq_false (by omega)]; rfl
  have h1 : IntOp.cmpi CmpIPredicate.sge (BitVec.ofNat 32 a.val) 0#32 = 1#1 := by
    rw [IntOp.cmpi, BitVec.sle, e, show (0#32 : BitVec 32).toInt = 0 from rfl, decide_eq_true (by omega)]; rfl
  have h2 : IntOp.cmpi CmpIPredicate.sle (BitVec.ofNat 32 a.val) 99999#32 = 1#1 := by
    rw [IntOp.cmpi, BitVec.sle, e, show (99999#32 : BitVec 32).toInt = 99999 from rfl, decide_eq_true (by omega)]; rfl
  have hs : ∀ x y : BitVec 32, Scalar.select 0#1 x y = y := fun x y => rfl
  simp only [h0, h1, h2, hs]
  rw [show Finset.fold IntOp.andi (1#1) (fun _ : Fin 1 => IntOp.andi 1#1 1#1) Finset.univ = 1#1 from by decide]
  refine gather_at _ _ t b a ?_
  show Scalar.select (IntOp.cmpi CmpIPredicate.slt (V (Proc.devRef .tc main_v48) (ix3 t b 0)) 0#32)
    (IntOp.addi (V (Proc.devRef .tc main_v48) (ix3 t b 0)) 100000#32) (V (Proc.devRef .tc main_v48) (ix3 t b 0)) = _
  rw [h, h0]; rfl

/-- The sum of a step's log-probabilities. -/
theorem sum_of : StableHlo.after hostOps0_7 V (Proc.devRef .tc main_v51) (ix1 t) =
    Finset.sum (M := EReal) Finset.univ fun b : Fin 16 => rd V main_v49 (ix3 t b 0) := by
  unfold rd
  after_reads_at

end Cert.ReferenceIdeal.Gen
end
-- ==== Proof.RefLoss.lean ====
module

public import proofs.«01_k».proof.Proof.RefLoop
public import proofs.«01_k».proof.Proof.RefLp

/-! The reference's loss, of the discounted sums and the log-probabilities of the twenty steps. -/

@[expose] public section
set_option maxRecDepth 100000
noncomputable section
namespace Cert.ReferenceIdeal.Gen
open Idealize.ShloMosaic Idealize.ShloMosaic.TcCoe Cert.Sampler

/-- Twenty, as the float the programs write. -/
theorem twenty : Ideal.ofBits .f32 0x41A00000#32 = ((20 : ℝ) : EReal) := by
  simp [Ideal.ofBits, Ideal.ieee, -EReal.coe_mul]
  norm_num

/-- Nineteen, as the float the programs write. -/
theorem nineteen : Ideal.ofBits .f32 0x41980000#32 = ((19 : ℝ) : EReal) := by
  simp [Ideal.ofBits, Ideal.ieee, -EReal.coe_mul]
  norm_num

/-- The deviation's divisor: twenty less the correction is nineteen. -/
theorem divisor : Ideal.ofBits .f32 0x41A00000#32 - (show EReal from FloatOps.sitofp (F := Ideal) .f32 (1#32)) = Ideal.ofBits .f32 0x41980000#32 := by
  rw [twenty, nineteen]
  show ((20 : ℝ) : EReal) - (((1#32 : BitVec 32).toInt : ℝ) : EReal) = _
  rw [show (1#32 : BitVec 32).toInt = 1 by decide, ← EReal.coe_sub]
  norm_num

variable (V : Bufs)

/-- The sums less their mean. -/
theorem centred_of (d : Fin 20 → EReal) (h : ∀ j : Fin 20, rd V main_v54_3 (ix1 j) = d j) (j : Fin 20) :
    StableHlo.after hostOps0_8 V (Proc.devRef .tc main_v58) (ix1 j) = centred d j := by
  obtain rfl : (fun j => rd V main_v54_3 (ix1 j)) = d := funext h
  unfold rd
  after_reads_at
  rfl

/-- The correction of the divisor. -/
theorem correction_of (i : S_.Idx) : StableHlo.after hostOps0_8 V (Proc.devRef .tc main_c_17) i = 1#32 := by
  after_reads_simp
  rfl

/-- The sums' deviation. -/
theorem devn_of (d : Fin 20 → EReal) (h : ∀ j : Fin 20, rd V main_v54_3 (ix1 j) = d j) (hc : ∀ i, rd V main_c_17 i = 1#32) (i : S_.Idx) :
    StableHlo.after hostOps0_9 V (Proc.devRef .tc main_v59) i = devn d := by
  obtain rfl : (fun j => rd V main_v54_3 (ix1 j)) = d := funext h
  obtain rfl : i = ix0 := funext fun a => a.elim0
  unfold rd
  after_reads_at
  have e : V (Proc.devRef .tc main_c_17) ix0 = 1#32 := hc ix0
  have p : (0 : EReal) < Ideal.ofBits .f32 0x41980000#32 := by
    rw [nineteen]
    exact_mod_cast (by norm_num : (0 : ℝ) < 19)
  have d := divisor
  rw [e]
  dsimp only at d
  rw [d, if_pos p]
  rfl

/-- The loss. -/
theorem loss_of (z lp : Fin 20 → EReal) (s : EReal) (hz : ∀ j : Fin 20, rd V main_v58 (ix1 j) = z j) (hl : ∀ j : Fin 20, rd V main_v51 (ix1 j) = lp j)
    (hs : ∀ i, rd V main_v59 i = s) (i : S_.Idx) :
    StableHlo.after hostOps0_10 V (Proc.devRef .tc main_v65) i
      = ∑ t, Ideal.div (z t) s * (Ideal.ofBits .f32 0xBF800000#32 * lp t) := by
  obtain rfl : i = ix0 := funext fun a => a.elim0
  unfold rd at hz hl hs
  after_reads_at
  exact Finset.sum_congr rfl fun t _ => by rw [hz, hl, hs]

end Cert.ReferenceIdeal.Gen
end
-- ==== Proof.RefEntry.lean ====
module

public import proofs.«01_k».proof.Proof.RefLoss
public import proofs.«01_k».proof.Proof.ArgMax

/-! The reference before its loop: the actions and the summed log-probabilities, of the logits. -/

@[expose] public section
set_option maxRecDepth 100000
noncomputable section
namespace Cert.ReferenceIdeal.Gen
open Idealize.ShloMosaic Idealize.ShloMosaic.TcCoe Cert.Sampler

/-- Columns that agree on the hundred thousand columns have the same first column. -/
theorem first_congr {y z : ℕ → EReal} (h : ∀ c < 100000, y c = z c) {a : ℕ} (hy : IsFirst y a) : IsFirst z a := by
  obtain ⟨ha, h1, h2⟩ := hy
  exact ⟨ha, fun c hc => by rw [← h c hc, ← h a ha]; exact h1 c hc,
    fun c hc => by rw [← h c (hc.trans ha), ← h a ha]; exact h2 c hc⟩

/-- A column's entry where it is a column. -/
theorem col_at (x : Fin 100000 → EReal) (k : Fin 100000) : col x k.val = x k := by
  unfold col; rw [dif_pos k.isLt]

variable (V : Bufs) (x : Fin 20 → Fin 16 → Fin 100000 → EReal)

/-- The contents after the first three stretches. -/
abbrev U3 : Bufs := StableHlo.after hostOps0_2 (StableHlo.after hostOps0_1 (StableHlo.after hostOps0 V))
/-- The contents after the first four stretches. -/
abbrev U4 : Bufs := StableHlo.after hostOps0_3 (U3 V)
/-- The contents after the first five stretches. -/
abbrev U5 : Bufs := StableHlo.after hostOps0_4 (U4 V)
/-- The contents after the first six stretches. -/
abbrev U6 : Bufs := StableHlo.after hostOps0_5 (U5 V)
/-- The contents after the first seven stretches. -/
abbrev U7 : Bufs := StableHlo.after hostOps0_6 (U6 V)

/-- The logits are not written by the first stretches. -/
theorem arg0_U3 : rd (U3 V) main_arg0 = rd V main_arg0 :=
  (StableHlo.after_of_writes_sub hostOps0_2 _ Value.hostOps0_2_writes (by decide +kernel)).trans
    ((StableHlo.after_of_writes_sub hostOps0_1 _ Value.hostOps0_1_writes (by decide +kernel)).trans
      (StableHlo.after_of_writes_sub hostOps0 _ Value.hostOps0_writes (by decide +kernel)))

/-- The logits are not written by the action's stretch. -/
theorem arg0_U4 : rd (U4 V) main_arg0 = rd V main_arg0 :=
  (StableHlo.after_of_writes_sub hostOps0_3 _ Value.hostOps0_3_writes (by decide +kernel)).trans (arg0_U3 V)

/-- The rewards are not written before the loop's stretch. -/
theorem arg1_U7 : rd (U7 V) main_arg1 = rd V main_arg1 :=
  (StableHlo.after_of_writes_sub hostOps0_6 _ Value.hostOps0_6_writes (by decide +kernel)).trans
  ((StableHlo.after_of_writes_sub hostOps0_5 _ Value.hostOps0_5_writes (by decide +kernel)).trans
  ((StableHlo.after_of_writes_sub hostOps0_4 _ Value.hostOps0_4_writes (by decide +kernel)).trans
  ((StableHlo.after_of_writes_sub hostOps0_3 _ Value.hostOps0_3_writes (by decide +kernel)).trans
  ((StableHlo.after_of_writes_sub hostOps0_2 _ Value.hostOps0_2_writes (by decide +kernel)).trans
    ((StableHlo.after_of_writes_sub hostOps0_1 _ Value.hostOps0_1_writes (by decide +kernel)).trans
      (StableHlo.after_of_writes_sub hostOps0 _ Value.hostOps0_writes (by decide +kernel)))))))

/-- The logits are not written before the loop's stretch. -/
theorem arg0_U7 : rd (U7 V) main_arg0 = rd V main_arg0 :=
  (StableHlo.after_of_writes_sub hostOps0_6 _ Value.hostOps0_6_writes (by decide +kernel)).trans
  ((StableHlo.after_of_writes_sub hostOps0_5 _ Value.hostOps0_5_writes (by decide +kernel)).trans
  ((StableHlo.after_of_writes_sub hostOps0_4 _ Value.hostOps0_4_writes (by decide +kernel)).trans
  ((StableHlo.after_of_writes_sub hostOps0_3 _ Value.hostOps0_3_writes (by decide +kernel)).trans
  ((StableHlo.after_of_writes_sub hostOps0_2 _ Value.hostOps0_2_writes (by decide +kernel)).trans
    ((StableHlo.after_of_writes_sub hostOps0_1 _ Value.hostOps0_1_writes (by decide +kernel)).trans
      (StableHlo.after_of_writes_sub hostOps0 _ Value.hostOps0_writes (by decide +kernel)))))))

/-- The sampled scores. -/
theorem score_U3 (hx : ∀ t b k, rd V main_arg0 (ix3 t b k) = x t b k) (t : Fin 20) (b : Fin 16) (k : Fin 100000) :
    rd (U3 V) main_v45 (ix3 t b k) = samp (16 * t + b) (col (x t b)) k.val := by
  have e := threefry (StableHlo.after hostOps0 V) t b k (BitVec.ofNat 32 ((16 * t.val + b.val) * 100000 + k.val))
    (key_hi V) (key_lo V) (flat_hi V t b k) (flat_lo V t b k)
  refine (score (StableHlo.after hostOps0_1 (StableHlo.after hostOps0 V)) t b k _ e.1 e.2).trans ?_
  have a : rd (StableHlo.after hostOps0_1 (StableHlo.after hostOps0 V)) main_arg0 = rd V main_arg0 :=
    (StableHlo.after_of_writes_sub hostOps0_1 _ Value.hostOps0_1_writes (by decide +kernel)).trans
      (StableHlo.after_of_writes_sub hostOps0 _ Value.hostOps0_writes (by decide +kernel))
  unfold samp
  rw [col_at, ← hx t b k, a]

/-- The action of every row. -/
theorem action_U4 (hx : ∀ t b k, rd V main_arg0 (ix3 t b k) = x t b k) (t : Fin 20) (b : Fin 16) :
    action x t b < 100000 ∧ rd (U4 V) main_v46 (ix2 t b) = BitVec.ofNat 32 (action x t b) := by
  obtain ⟨a, ha, he⟩ := argmax_first (U3 V) t b
  have h2 : IsFirst (samp (16 * t + b) (col (x t b))) a := first_congr (fun c hc => by
    rw [show col _ c = _ from col_at _ ⟨c, hc⟩]
    exact score_U3 V x hx t b ⟨c, hc⟩) ha
  have h3 : action x t b = a := act_eq h2
  rw [h3]
  exact ⟨h2.1, he⟩

/-- The action of every row, where the loop begins. -/
theorem action_U7 (hx : ∀ t b k, rd V main_arg0 (ix3 t b k) = x t b k) (t : Fin 20) (b : Fin 16) :
    rd (U7 V) main_v46 (ix2 t b) = BitVec.ofNat 32 (action x t b) := by
  refine Eq.trans (congrFun (?_ : rd (U7 V) main_v46 = rd (U4 V) main_v46) _) (action_U4 V x hx t b).2
  exact (StableHlo.after_of_writes_sub hostOps0_6 _ Value.hostOps0_6_writes (by decide +kernel)).trans
    ((StableHlo.after_of_writes_sub hostOps0_5 _ Value.hostOps0_5_writes (by decide +kernel)).trans
      (StableHlo.after_of_writes_sub hostOps0_4 _ Value.hostOps0_4_writes (by decide +kernel)))

/-- The log-probability of every row's action. -/
theorem picked_U7 (hx : ∀ t b k, rd V main_arg0 (ix3 t b k) = x t b k) (t : Fin 20) (b : Fin 16) :
    rd (U7 V) main_v49 (ix3 t b 0) = rowLp (col (x t b)) (action x t b) := by
  obtain ⟨ha, he⟩ := action_U4 V x hx t b
  have h46 : rd (U5 V) main_v46 = rd (U4 V) main_v46 :=
    StableHlo.after_of_writes_sub hostOps0_4 _ Value.hostOps0_4_writes (by decide +kernel)
  have h48 : rd (U6 V) main_v48 (ix3 t b 0) = BitVec.ofNat 32 (action x t b) :=
    (index_of (U5 V) t b).trans ((congrFun h46 _).trans he)
  have h47 : rd (U6 V) main_v47 = rd (U5 V) main_v47 :=
    StableHlo.after_of_writes_sub hostOps0_5 _ Value.hostOps0_5_writes (by decide +kernel)
  refine (lookup (U6 V) t b ⟨action x t b, ha⟩ h48).trans ((congrFun h47 _).trans ?_)
  refine (logSoftmax (U4 V) t b ⟨action x t b, ha⟩).trans ?_
  have hc : (fun k => rd (U4 V) main_arg0 (ix3 t b k)) = x t b := by
    funext k
    rw [arg0_U4]
    exact hx t b k
  exact congrArg (fun z => rowLp (col z) (action x t b)) hc

/-- The summed log-probabilities at the loop's entry. -/
theorem logProb_entry (hx : ∀ t b k, rd V main_arg0 (ix3 t b k) = x t b k) (t : Fin 20) :
    rd (StableHlo.after hostOps0_7 (U7 V)) main_v51 (ix1 t) = logProb x t :=
  (sum_of (U7 V) t).trans (Finset.sum_congr (M := EReal) rfl fun b _ => picked_U7 V x hx t b)

/-- The actions at the loop's entry. -/
theorem action_entry (hx : ∀ t b k, rd V main_arg0 (ix3 t b k) = x t b k) (t : Fin 20) (b : Fin 16) :
    rd (StableHlo.after hostOps0_7 (U7 V)) main_v46 (ix2 t b) = BitVec.ofNat 32 (action x t b) :=
  (congrFun (show rd (StableHlo.after hostOps0_7 (U7 V)) main_v46 = rd (U7 V) main_v46 from
    StableHlo.after_of_writes_sub hostOps0_7 _ Value.hostOps0_7_writes (by decide +kernel)) _).trans (action_U7 V x hx t b)

/-- The loop's buffers at its entry. -/
theorem steps_entry (r : Fin 20 → EReal) (hr : ∀ t, rd V main_arg1 (ix1 t) = r t) :
    Steps r 0 (StableHlo.after hostOps0_7 (U7 V)) :=
  steps_zero (U7 V) r fun j => by rw [arg1_U7]; exact hr j

end Cert.ReferenceIdeal.Gen
end
-- ==== Proof.RefRun.lean ====
module

public import proofs.«01_k».proof.Proof.RefEntry
public import Idealize.ShloMosaic.Lib.Quiescent

/-! The reference's three results, and its run. -/

@[expose] public section
set_option maxRecDepth 100000
noncomputable section
namespace Cert.ReferenceIdeal.Gen
open Idealize.ShloMosaic Idealize.ShloMosaic.TcCoe Idealize.SL.Sem Cert.Sampler

/-- The buffers that the stretch `hostOps0_8` writes. -/
abbrev hostOps0_8_W : List (Ref sig .tc) := [main_cst_15, main_v55, main_cst_16, main_v56, main_v57, main_v58, main_c_17]
/-- The stretch `hostOps0_8` writes these buffers only. -/
theorem hostOps0_8_writes : (hostOps0_8 : List (HloOp τ sig (Elt Ideal))).Forall fun op => op.writes ⊆ (hostOps0_8_W.map (Proc.devRef (τ := τ) .tc)).toFinset :=
  StableHlo.forall_writes_sub_of_map rfl

/-- The buffers that the stretch `hostOps0_9` writes. -/
abbrev hostOps0_9_W : List (Ref sig .tc) := [main_call6_call0_cst, main_call6_call0_v0, main_call6_call0_v1, main_call6_call0_cst_0, main_call6_call0_v2, main_call6_call0_v3, main_call6_call0_v4, main_call6_call0_v5, main_call6_call0_v6, main_call6_call0_v7, main_call6_call0_cst_1, main_call6_call0_v8, main_call6_call0_cst_2, main_call6_call0_v9, main_call6_call0_v10, main_call6_call0_cst_3, main_call6_call0_v11, main_call6_call0_cst_4, main_call6_call0_call0_v0, main_call6_v0, main_v59]
/-- The stretch `hostOps0_9` writes these buffers only. -/
theorem hostOps0_9_writes : (hostOps0_9 : List (HloOp τ sig (Elt Ideal))).Forall fun op => op.writes ⊆ (hostOps0_9_W.map (Proc.devRef (τ := τ) .tc)).toFinset :=
  StableHlo.forall_writes_sub_of_map rfl

/-- The buffers that the stretch `hostOps0_10` writes. -/
abbrev hostOps0_10_W : List (Ref sig .tc) := [main_v60, main_v61, main_cst_18, main_v62, main_v63, main_v64, main_cst_19, main_v65]
/-- The stretch `hostOps0_10` writes these buffers only. -/
theorem hostOps0_10_writes : (hostOps0_10 : List (HloOp τ sig (Elt Ideal))).Forall fun op => op.writes ⊆ (hostOps0_10_W.map (Proc.devRef (τ := τ) .tc)).toFinset :=
  StableHlo.forall_writes_sub_of_map rfl

/-- A buffer that no step of the loop writes keeps its contents through the whole loop. -/
theorem trip_keep (W : Dev nD → Bufs) (c : Dev nD) (b : Ref sig .tc) (h0 : b ∉ Value.condOps_W) (h1 : b ∉ Value.while0Ops0_W)
    (h2 : b ∉ Value.while0Ops0_1_W) (h3 : b ∉ Value.while0Ops0_2_W) (h4 : b ∉ Value.while0Ops0_3_W) :
    ∀ k, StableHlo.atTrip Value.condOps Value.bodyI W k c (Proc.devRef .tc b) = W c (Proc.devRef .tc b)
  | 0 => rfl
  | k + 1 => by
    show StableHlo.afterL Value.bodyI (StableHlo.after Value.condOps (StableHlo.atTrip Value.condOps Value.bodyI W k c)) (Proc.devRef .tc b) = _
    simp only [StableHlo.afterL_cons, StableHlo.afterL_nil]
    rw [StableHlo.after_of_writes_sub while0Ops0_3 _ Value.while0Ops0_3_writes h4,
      StableHlo.after_of_writes_sub while0Ops0_2 _ Value.while0Ops0_2_writes h3,
      StableHlo.after_of_writes_sub while0Ops0_1 _ Value.while0Ops0_1_writes h2,
      StableHlo.after_of_writes_sub while0Ops0 _ Value.while0Ops0_writes h1,
      StableHlo.after_of_writes_sub Value.condOps _ Value.condOps_writes h0, trip_keep W c b h0 h1 h2 h3 h4 k]

section Final
variable (m : (ℓ : Loc nD τ sig) → Buf (Elt Ideal) ℓ) (c : Dev nD)

/-- The contents where the loop begins. -/
abbrev entry : Dev nD → Bufs := StableHlo.entryContents Value.preI m
/-- The contents where the loop ends. -/
abbrev exit (c : Dev nD) : Bufs := StableHlo.after Value.condOps (StableHlo.atTrip Value.condOps Value.bodyI (entry m) 20 c)
/-- The contents where the program ends. -/
abbrev final (c : Dev nD) : Bufs := StableHlo.finalContents Value.condOps Value.preI Value.bodyI Value.postI 20 m c

/-- A buffer that the loop does not write. -/
theorem exit_keep (b : Ref sig .tc) (h0 : b ∉ Value.condOps_W) (h1 : b ∉ Value.while0Ops0_W)
    (h2 : b ∉ Value.while0Ops0_1_W) (h3 : b ∉ Value.while0Ops0_2_W) (h4 : b ∉ Value.while0Ops0_3_W) :
    exit m c (Proc.devRef .tc b) = entry m c (Proc.devRef .tc b) :=
  (StableHlo.after_of_writes_sub Value.condOps _ Value.condOps_writes h0).trans (trip_keep (entry m) c b h0 h1 h2 h3 h4 20)

/-- A buffer that the stretches after the loop do not write. -/
theorem final_keep (b : Ref sig .tc) (h0 : b ∉ hostOps0_8_W) (h1 : b ∉ hostOps0_9_W) (h2 : b ∉ hostOps0_10_W) :
    final m c (Proc.devRef .tc b) = exit m c (Proc.devRef .tc b) := by
  show StableHlo.afterL Value.postI (exit m c) (Proc.devRef .tc b) = _
  simp only [StableHlo.afterL_cons, StableHlo.afterL_nil]
  rw [StableHlo.after_of_writes_sub hostOps0_10 _ hostOps0_10_writes h2,
    StableHlo.after_of_writes_sub hostOps0_9 _ hostOps0_9_writes h1,
    StableHlo.after_of_writes_sub hostOps0_8 _ hostOps0_8_writes h0]

/-- The loop's entry, after the eight stretches before it. -/
theorem entry_eq : entry m c = StableHlo.after hostOps0_7 (U7 (StableHlo.launchContents m c)) := by
  show StableHlo.afterL Value.preI (StableHlo.launchContents m c) = _
  simp only [StableHlo.afterL_cons, StableHlo.afterL_nil]

/-- The logits as launched. -/
abbrev logits (t : Fin 20) (b : Fin 16) (k : Fin 100000) : EReal := rd (StableHlo.launchContents m c) main_arg0 (ix3 t b k)
/-- The rewards as launched. -/
abbrev rewards (t : Fin 20) : EReal := rd (StableHlo.launchContents m c) main_arg1 (ix1 t)

/-- The first result: the action of every row. -/
theorem reference_actions : final m c (Proc.devRef .tc main_v46) =
    fun y : S20x16.Idx => BitVec.ofNat 32 (action (logits m c) (y 0) (y 1)) := by
  rw [final_keep m c main_v46 (by decide +kernel) (by decide +kernel) (by decide +kernel),
    exit_keep m c main_v46 (by decide +kernel) (by decide +kernel) (by decide +kernel) (by decide +kernel) (by decide +kernel), entry_eq]
  funext y
  obtain ⟨t, b, rfl⟩ : ∃ t b, y = ix2 t b := ⟨y 0, y 1, eq_ix2 y⟩
  exact action_entry (StableHlo.launchContents m c) (logits m c) (fun _ _ _ => rfl) t b

/-- The summed log-probabilities where the loop ends. -/
theorem exit_logProb (t : Fin 20) : rd (exit m c) main_v51 (ix1 t) = logProb (logits m c) t := by
  unfold rd
  rw [exit_keep m c main_v51 (by decide +kernel) (by decide +kernel) (by decide +kernel) (by decide +kernel) (by decide +kernel), entry_eq]
  exact logProb_entry (StableHlo.launchContents m c) (logits m c) (fun _ _ _ => rfl) t

/-- The second result: the log-probabilities of the actions, summed over each step's rows. -/
theorem reference_logProb : final m c (Proc.devRef .tc main_v51) = fun y : S20.Idx => logProb (logits m c) (y 0) := by
  rw [final_keep m c main_v51 (by decide +kernel) (by decide +kernel) (by decide +kernel)]
  funext y
  obtain ⟨t, rfl⟩ : ∃ t, y = ix1 t := ⟨y 0, eq_ix1 y⟩
  exact exit_logProb m c t

/-- The discounted sums where the loop ends. -/
theorem exit_disc (j : Fin 20) : rd (exit m c) main_v54_3 (ix1 j) = disc (rewards m c) j := by
  have h : Steps (rewards m c) 0 (entry m c) := by
    rw [entry_eq]
    exact steps_entry (StableHlo.launchContents m c) (rewards m c) fun _ => rfl
  have h2 := (steps_all (entry m) c (rewards m c) h 20 (le_refl _)).out j
  rw [if_pos j.isLt] at h2
  exact (congrFun (StableHlo.after_of_writes_sub Value.condOps _ Value.condOps_writes (r := main_v54_3) (by decide +kernel)) _).trans h2

/-- The third result: the loss. -/
theorem reference_loss : final m c (Proc.devRef .tc main_v65) = fun _ : S_.Idx => loss (rewards m c) (logProb (logits m c)) := by
  funext i
  have h8 := centred_of (exit m c) _ (exit_disc m c)
  have hc := correction_of (exit m c)
  have k8 : rd (StableHlo.after hostOps0_8 (exit m c)) main_v54_3 = rd (exit m c) main_v54_3 :=
    StableHlo.after_of_writes_sub hostOps0_8 _ hostOps0_8_writes (by decide +kernel)
  have h9 := devn_of (StableHlo.after hostOps0_8 (exit m c)) (disc (rewards m c)) (fun j => (congrFun k8 _).trans (exit_disc m c j)) hc
  have k9 : rd (StableHlo.after hostOps0_9 (StableHlo.after hostOps0_8 (exit m c))) main_v58 = rd (StableHlo.after hostOps0_8 (exit m c)) main_v58 :=
    StableHlo.after_of_writes_sub hostOps0_9 _ hostOps0_9_writes (by decide +kernel)
  have l9 : rd (StableHlo.after hostOps0_9 (StableHlo.after hostOps0_8 (exit m c))) main_v51 = rd (exit m c) main_v51 :=
    (StableHlo.after_of_writes_sub hostOps0_9 _ hostOps0_9_writes (by decide +kernel)).trans
      (StableHlo.after_of_writes_sub hostOps0_8 _ hostOps0_8_writes (by decide +kernel))
  exact loss_of (StableHlo.after hostOps0_9 (StableHlo.after hostOps0_8 (exit m c))) (centred (disc (rewards m c))) (logProb (logits m c))
    (devn (disc (rewards m c))) (fun j => (congrFun k9 _).trans (h8 j)) (fun j => (congrFun l9 _).trans (exit_logProb m c j)) h9 i

/-- The logits end as launched. -/
theorem final_arg0 : final m c (Proc.devRef .tc main_arg0) = m ((c.tc : Thread nD τ).loc main_arg0) := by
  rw [final_keep m c main_arg0 (by decide +kernel) (by decide +kernel) (by decide +kernel),
    exit_keep m c main_arg0 (by decide +kernel) (by decide +kernel) (by decide +kernel) (by decide +kernel) (by decide +kernel), entry_eq,
    StableHlo.after_of_writes_sub hostOps0_7 _ Value.hostOps0_7_writes (by decide +kernel)]
  exact arg0_U7 _

/-- The rewards end as launched. -/
theorem final_arg1 : final m c (Proc.devRef .tc main_arg1) = m ((c.tc : Thread nD τ).loc main_arg1) := by
  rw [final_keep m c main_arg1 (by decide +kernel) (by decide +kernel) (by decide +kernel),
    exit_keep m c main_arg1 (by decide +kernel) (by decide +kernel) (by decide +kernel) (by decide +kernel) (by decide +kernel), entry_eq,
    StableHlo.after_of_writes_sub hostOps0_7 _ Value.hostOps0_7_writes (by decide +kernel)]
  exact arg1_U7 _

end Final

variable (m : (ℓ : Loc nD τ sig) → Buf (Elt Ideal) ℓ) (ρ : Dev nD → PrngReg)

/-- Every run of the reference ends with its three results as stated and its arguments as launched. -/
theorem run_results : θ_run defs (onTc (τ := τ) (main (F := Ideal))) ⟨m, fun _ => 0, ρ⟩ (fun r => ∀ c : Dev nD,
      r.2.mem ((c.tc : Thread nD τ).loc main_v46) = final m c (Proc.devRef .tc main_v46)
      ∧ r.2.mem ((c.tc : Thread nD τ).loc main_v51) = final m c (Proc.devRef .tc main_v51)
      ∧ r.2.mem ((c.tc : Thread nD τ).loc main_v65) = final m c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨h c main_v46 (by decide), h c main_v51 (by decide), h c main_v65 (by decide),
    (h c main_arg0 (by decide)).trans (final_arg0 m c), (h c main_arg1 (by decide)).trans (final_arg1 m c)⟩) (Value.run_fold m ρ)

/-- Every run of the reference ends with its arguments as launched and with every counter at zero. -/
theorem run_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => ⟨(h c).2.2.2.1, (h c).2.2.2.2⟩, sem_eq_zero_of_no_sems (by decide) r.2⟩) (run_results m ρ)

end Cert.ReferenceIdeal.Gen
end
-- ==== Proof.Pre.lean ====
module

public import proofs.«01_k».proof.Pre_some_logit
public import proofs.«01_k».proof.Proof.RefSoftmax
public import Idealize.ShloMosaic.Lib.Pointwise

/-! The precondition, read: every row of the logits has a largest entry above −∞. -/

@[expose] public section
set_option maxRecDepth 100000
noncomputable section
namespace Cert.Pre_some_logit
open Idealize.ShloMosaic Cert.Sampler

/-- The shapes that the precondition's operations take fit. -/
instance facts : Facts where
  reducesTo_S20x16x100000_S20x16_d2 := by decide
  h_S_ := by decide
  bcast_S_S20x16 := by decide

/-- A row's largest entry, as the precondition finds it. -/
theorem largest (x : FVec Ideal S20x16x100000 .f32) (c : FVec Ideal S_ .f32) (h : S20x16x100000.ReducesTo [2] S20x16) (h0 : 0 < S_.numel)
    (t : Fin 20) (b : Fin 16) : Host.reduce FloatOps.maximumf x c h h0 (ix2 t b) =
      Finset.fold max (c (Shape.Idx.first h0)) (fun k : Fin 100000 => x (ix3 t b k)) Finset.univ := by
  simp only [pointwise]

section Entry
variable {F : FTy → Type} [FloatOps F]

/-- The precondition at a row: whether the row's largest entry is above the constant. -/
theorem fn_at (x : FVec F S20x16x100000 .f32) (r : FVec F S20 .f32) (j : S20x16.Idx) :
    fn x r j = FloatOps.cmpf .ogt (Host.reduce FloatOps.maximumf x (constant S_ .f32 0xFF800000#32) Facts.reducesTo_S20x16x100000_S20x16_d2 Facts.h_S_ j)
      (FloatOps.ofBits .f32 0xFF800000#32) := rfl

end Entry

/-- Where the precondition is all ones, no row of the logits is −∞ throughout. -/
theorem rowMax_ne (x : FVec Ideal S20x16x100000 .f32) (r : FVec Ideal S20 .f32) (h : fn (F := Ideal) x r = fun _ => 1#1)
    (t : Fin 20) (b : Fin 16) : rowMax (col fun k => x (ix3 t b k)) ≠ ⊥ := by
  have h1 := congrFun h (ix2 t b)
  rw [fn_at, largest, Ideal.cmpf_def, Ideal.ofBits_def] at h1
  have hc : (constant (F := Ideal) S_ .f32 0xFF800000#32) (Shape.Idx.first Facts.h_S_) = ⊥ := ninf
  rw [hc, ninf, Cert.ReferenceIdeal.Gen.rowMax_col] at h1
  intro h3
  rw [h3] at h1
  unfold Ideal.cmp at h1
  dsimp only at h1
  rw [decide_eq_false (lt_irrefl _)] at h1
  exact absurd h1 (by decide)

end Cert.Pre_some_logit
end
-- ==== Proof.lean ====
/- The certificate: the frames of the three programs, and the equality of the kernel's three results with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelHost
public import proofs.«01_k».proof.Proof.RefRun
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.Sampler

/-- From arguments that agree and that meet the precondition, the kernel and the reference end with equal actions, equal summed
log-probabilities and equal losses, and with their arguments as launched. -/
theorem results_equal : Cert.algebraic_KernelIdeal_ReferenceIdeal_pre_some_logit := by
  intro m g m' g' hp hm
  have hx : ∀ c t b, rowMax (col (KernelIdeal.Gen.logits m c t b)) ≠ ⊥ := fun c t b =>
    Pre_some_logit.rowMax_ne (m ((c.tc : Thread KernelIdeal.nD KernelIdeal.τ).loc KernelIdeal.main_arg0))
      (m ((c.tc : Thread KernelIdeal.nD KernelIdeal.τ).loc KernelIdeal.main_arg1)) (hp c) t b
  have el : ∀ c, ReferenceIdeal.Gen.logits m' c = KernelIdeal.Gen.logits m c := fun c => by
    funext t b k
    exact congrFun (hm c).1 (ix3 t b k)
  have er : ∀ c, ReferenceIdeal.Gen.rewards m' c = KernelIdeal.Gen.rewards m c := fun c => by
    funext t
    exact congrFun (hm c).2 (ix1 t)
  refine ⟨fun c => fun y : KernelIdeal.S20x16.Idx => BitVec.ofNat 32 (action (KernelIdeal.Gen.logits m c) (y 0) (y 1)),
    fun c => fun y : KernelIdeal.S20.Idx => logProb (KernelIdeal.Gen.logits m c) (y 0),
    fun c => fun _ : KernelIdeal.S_.Idx => loss (KernelIdeal.Gen.rewards m c) (logProb (KernelIdeal.Gen.logits m c)), ?_, ?_⟩
  · refine (θ_run _ _ _).mono (fun r h c => ?_) (KernelIdeal.Gen.run_results m g)
    obtain ⟨h0, h1, h2, h3, h4⟩ := h c
    exact ⟨h0.trans (KernelIdeal.Gen.kernel_actions m g c (hx c)), h1.trans (KernelIdeal.Gen.kernel_logProb m g c (hx c)),
      h2.trans (KernelIdeal.Gen.kernel_loss m g c (hx c)), h3, h4⟩
  · refine (θ_run _ _ _).mono (fun r h c => ?_) (ReferenceIdeal.Gen.run_results m' g')
    obtain ⟨h0, h1, h2, h3, h4⟩ := h c
    have e0 := ReferenceIdeal.Gen.reference_actions m' c
    have e1 := ReferenceIdeal.Gen.reference_logProb m' c
    have e2 := ReferenceIdeal.Gen.reference_loss m' c
    rw [el] at e0 e1 e2
    rw [er] at e2
    exact ⟨h0.trans e0, h1.trans e1, h2.trans e2, h3, h4⟩

/-- Everything the certificate claims. -/
theorem claim : Cert.Claim :=
  ⟨Cert.Kernel.Gen.facts, Cert.KernelIdeal.Gen.facts, Cert.ReferenceIdeal.Gen.facts, Cert.Pre_some_logit.facts,
    fun m g _ => Cert.Kernel.Gen.frame m g,
    fun m g _ => Cert.KernelIdeal.Gen.frame m g,
    fun m g _ => Cert.KernelIdeal.Gen.frame m g,
    fun m g _ => Cert.ReferenceIdeal.Gen.run_frame m g,
    fun m g _ => Cert.ReferenceIdeal.Gen.run_frame m g,
    trivial,
    results_equal⟩

end Cert.Proof

end
